-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x4096 : Shape := ⟨3, ![1, 256, 4096]⟩
abbrev S2048x14336 : Shape := ⟨2, ![2048, 14336]⟩
abbrev S32x14336 : Shape := ⟨2, ![32, 14336]⟩
abbrev S256x256 : Shape := ⟨2, ![256, 256]⟩
abbrev S256x4096 : Shape := ⟨2, ![256, 4096]⟩
abbrev S256x14336 : Shape := ⟨2, ![256, 14336]⟩
abbrev S256x1 : Shape := ⟨2, ![256, 1]⟩
abbrev S2048x512 : Shape := ⟨2, ![2048, 512]⟩
abbrev S32x512 : Shape := ⟨2, ![32, 512]⟩
abbrev S256x512 : Shape := ⟨2, ![256, 512]⟩
abbrev S512x4096 : Shape := ⟨2, ![512, 4096]⟩
abbrev S256 : Shape := ⟨1, ![256]⟩
abbrev S2048x1x512 : Shape := ⟨3, ![2048, 1, 512]⟩
abbrev S2048x2x512 : Shape := ⟨3, ![2048, 2, 512]⟩
abbrev S4096x512 : Shape := ⟨2, ![4096, 512]⟩
abbrev S32x128x512 : Shape := ⟨3, ![32, 128, 512]⟩
abbrev S32x1x512 : Shape := ⟨3, ![32, 1, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S1x256x4096, .bf16⟩
  | .hbm, ⟨1, _⟩ => ⟨S1x256x4096, .bf16⟩
  | .hbm, ⟨2, _⟩ => ⟨S2048x14336, .i8⟩
  | .hbm, ⟨3, _⟩ => ⟨S32x14336, .f32⟩
  | .hbm, ⟨4, _⟩ => ⟨S256x256, .bf16⟩
  | .hbm, ⟨5, _⟩ => ⟨S256x4096, .bf16⟩
  | .hbm, ⟨6, _⟩ => ⟨S256x4096, .bf16⟩
  | .hbm, ⟨7, _⟩ => ⟨S256x14336, .bf16⟩
  | .hbm, ⟨8, _⟩ => ⟨S256x14336, .bf16⟩
  | .hbm, ⟨9, _⟩ => ⟨S256x4096, .i8⟩
  | .hbm, ⟨10, _⟩ => ⟨S256x1, .f32⟩
  | .local _ .vmem, ⟨0, _⟩ => ⟨S256x4096, .bf16⟩
  | .local _ .vmem, ⟨1, _⟩ => ⟨S256x4096, .bf16⟩
  | .local _ .vmem, ⟨2, _⟩ => ⟨S256x256, .bf16⟩
  | .local _ .vmem, ⟨3, _⟩ => ⟨S2048x512, .i8⟩
  | .local _ .vmem, ⟨4, _⟩ => ⟨S2048x512, .i8⟩
  | .local _ .vmem, ⟨5, _⟩ => ⟨S32x512, .f32⟩
  | .local _ .vmem, ⟨6, _⟩ => ⟨S32x512, .f32⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x4096, .i8⟩
  | .local _ .vmem, ⟨12, _⟩ => ⟨S256x1, .f32⟩
  | .local _ .vmem, ⟨13, _⟩ => ⟨S512x4096, .bf16⟩
  | .local _ .vmem, ⟨14, _⟩ => ⟨S256x4096, .f32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x256x4096 : Shape := ⟨3, ![1, 256, 4096]⟩
abbrev S2048x14336 : Shape := ⟨2, ![2048, 14336]⟩
abbrev S32x14336 : Shape := ⟨2, ![32, 14336]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S1x256x32x128 : Shape := ⟨4, ![1, 256, 32, 128]⟩
abbrev S1x256 : Shape := ⟨2, ![1, 256]⟩
abbrev S1x256x1 : Shape := ⟨3, ![1, 256, 1]⟩
abbrev S1x256x2048 : Shape := ⟨3, ![1, 256, 2048]⟩
abbrev S256x2048 : Shape := ⟨2, ![256, 2048]⟩
abbrev S128x64 : Shape := ⟨2, ![128, 64]⟩
abbrev S1x256x32x64 : Shape := ⟨4, ![1, 256, 32, 64]⟩
abbrev S512x2048 : Shape := ⟨2, ![512, 2048]⟩
abbrev S32x1x14336 : Shape := ⟨3, ![32, 1, 14336]⟩
abbrev S32x64x14336 : Shape := ⟨3, ![32, 64, 14336]⟩
abbrev S512x14336 : Shape := ⟨2, ![512, 14336]⟩
abbrev S256x14336 : Shape := ⟨2, ![256, 14336]⟩
abbrev S1x256x14336 : Shape := ⟨3, ![1, 256, 14336]⟩
abbrev S256x4096 : Shape := ⟨2, ![256, 4096]⟩
abbrev S256x1 : Shape := ⟨2, ![256, 1]⟩

abbrev nBuf : Space → Nat
  | .hbm => 135
  | .vmem => 0
  | .smem => 0
  | _ => 0

abbrev hbmTy0_0 (i : Nat) : BufTy := match i % 128 with
  | 0 => ⟨S1x256x4096, .bf16⟩
  | 1 => ⟨S1x256x4096, .bf16⟩
  | 2 => ⟨S2048x14336, .i8⟩
  | 3 => ⟨S32x14336, .f32⟩
  | 4 => ⟨S2x2, .f32⟩
  | 5 => ⟨S2x1x2x1, .f32⟩
  | 6 => ⟨S1x2x1x2, .f32⟩
  | 7 => ⟨S2x2x2x2, .f32⟩
  | 8 => ⟨S2x2x2x2, .f32⟩
  | 9 => ⟨S2x2x2x2, .f32⟩
  | 10 => ⟨S4x4, .f32⟩
  | 11 => ⟨S4x1x4x1, .f32⟩
  | 12 => ⟨S1x2x1x2, .f32⟩
  | 13 => ⟨S4x2x4x2, .f32⟩
  | 14 => ⟨S4x2x4x2, .f32⟩
  | 15 => ⟨S4x2x4x2, .f32⟩
  | 16 => ⟨S8x8, .f32⟩
  | 17 => ⟨S8x1x8x1, .f32⟩
  | 18 => ⟨S1x2x1x2, .f32⟩
  | 19 => ⟨S8x2x8x2, .f32⟩
  | 20 => ⟨S8x2x8x2, .f32⟩
  | 21 => ⟨S8x2x8x2, .f32⟩
  | 22 => ⟨S16x16, .f32⟩
  | 23 => ⟨S16x1x16x1, .f32⟩
  | 24 => ⟨S1x2x1x2, .f32⟩
  | 25 => ⟨S16x2x16x2, .f32⟩
  | 26 => ⟨S16x2x16x2, .f32⟩
  | 27 => ⟨S16x2x16x2, .f32⟩
  | 28 => ⟨S32x32, .f32⟩
  | 29 => ⟨S32x1x32x1, .f32⟩
  | 30 => ⟨S1x2x1x2, .f32⟩
  | 31 => ⟨S32x2x32x2, .f32⟩
  | 32 => ⟨S32x2x32x2, .f32⟩
  | 33 => ⟨S32x2x32x2, .f32⟩
  | 34 => ⟨S64x64, .f32⟩
  | 35 => ⟨S64x1x64x1, .f32⟩
  | 36 => ⟨S1x2x1x2, .f32⟩
  | 37 => ⟨S64x2x64x2, .f32⟩
  | 38 => ⟨S64x2x64x2, .f32⟩
  | 39 => ⟨S64x2x64x2, .f32⟩
  | 40 => ⟨S128x128, .f32⟩
  | 41 => ⟨S_, .f32⟩
  | 42 => ⟨S128x128, .f32⟩
  | 43 => ⟨S128x128, .f32⟩
  | 44 => ⟨S1x256x4096, .f32⟩
  | 45 => ⟨S1x256x32x128, .f32⟩
  | 46 => ⟨S1x256x32x128, .f32⟩
  | 47 => ⟨S1x256x4096, .f32⟩
  | 48 => ⟨S1x256x4096, .f32⟩
  | 49 => ⟨S_, .f32⟩
  | 50 => ⟨S1x256, .f32⟩
  | 51 => ⟨S_, .f32⟩
  | 52 => ⟨S1x256, .f32⟩
  | 53 => ⟨S1x256, .i1⟩
  | 54 => ⟨S_, .f32⟩
  | 55 => ⟨S1x256, .f32⟩
  | 56 => ⟨S1x256, .f32⟩
  | 57 => ⟨S_, .f32⟩
  | 58 => ⟨S1x256, .f32⟩
  | 59 => ⟨S1x256, .f32⟩
  | 60 => ⟨S1x256x1, .f32⟩
  | 61 => ⟨S1x256x4096, .f32⟩
  | 62 => ⟨S1x256x4096, .f32⟩
  | 63 => ⟨S1x256x4096, .f32⟩
  | 64 => ⟨S_, .i32⟩
  | 65 => ⟨S_, .i32⟩
  | 66 => ⟨S_, .f32⟩
  | 67 => ⟨S1x256x4096, .f32⟩
  | 68 => ⟨S1x256x4096, .f32⟩
  | 69 => ⟨S_, .f32⟩
  | 70 => ⟨S1x256x4096, .f32⟩
  | 71 => ⟨S1x256x4096, .f32⟩
  | 72 => ⟨S1x256x4096, .i32⟩
  | 73 => ⟨S1x256x4096, .i8⟩
  | 74 => ⟨S1x256x4096, .i8⟩
  | 75 => ⟨S1x256, .f32⟩
  | 76 => ⟨S1x256x4096, .i32⟩
  | 77 => ⟨S1x256x4096, .bf16⟩
  | 78 => ⟨S1x256x2048, .bf16⟩
  | 79 => ⟨S256x2048, .bf16⟩
  | 80 => ⟨S1x256x2048, .bf16⟩
  | 81 => ⟨S256x2048, .bf16⟩
  | 82 => ⟨S1x256x4096, .f32⟩
  | 83 => ⟨S1x256x32x128, .f32⟩
  | 84 => ⟨S128x64, .f32⟩
  | 85 => ⟨S1x256x32x64, .f32⟩
  | 86 => ⟨S256x2048, .f32⟩
  | 87 => ⟨S256x2048, .bf16⟩
  | 88 => ⟨S128x64, .f32⟩
  | 89 => ⟨S1x256x32x64, .f32⟩
  | 90 => ⟨S256x2048, .f32⟩
  | 91 => ⟨S256x2048, .bf16⟩
  | 92 => ⟨S512x2048, .bf16⟩
  | 93 => ⟨S512x2048, .bf16⟩
  | 94 => ⟨S2048x14336, .i32⟩
  | 95 => ⟨S_, .i32⟩
  | 96 => ⟨S2048x14336, .i32⟩
  | 97 => ⟨S2048x14336, .i32⟩
  | 98 => ⟨S_, .i32⟩
  | 99 => ⟨S2048x14336, .i32⟩
  | 100 => ⟨S2048x14336, .i32⟩
  | 101 => ⟨S_, .i32⟩
  | 102 => ⟨S2048x14336, .i32⟩
  | 103 => ⟨S2048x14336, .i32⟩
  | 104 => ⟨S_, .i32⟩
  | 105 => ⟨S2048x14336, .i32⟩
  | 106 => ⟨S2048x14336, .i32⟩
  | 107 => ⟨S32x14336, .bf16⟩
  | 108 => ⟨S32x1x14336, .bf16⟩
  | 109 => ⟨S32x64x14336, .i32⟩
  | 110 => ⟨S32x64x14336, .bf16⟩
  | 111 => ⟨S32x64x14336, .bf16⟩
  | 112 => ⟨S32x64x14336, .bf16⟩
  | 113 => ⟨S2048x14336, .bf16⟩
  | 114 => ⟨S32x64x14336, .i32⟩
  | 115 => ⟨S32x64x14336, .bf16⟩
  | 116 => ⟨S32x64x14336, .bf16⟩
  | 117 => ⟨S32x64x14336, .bf16⟩
  | 118 => ⟨S2048x14336, .bf16⟩
  | 119 => ⟨S512x14336, .f32⟩
  | 120 => ⟨S512x14336, .f32⟩
  | 121 => ⟨S512x14336, .f32⟩
  | 122 => ⟨S256x14336, .f32⟩
  | 123 => ⟨S1x256x14336, .f32⟩
  | 124 => ⟨S256x14336, .f32⟩
  | 125 => ⟨S1x256x14336, .f32⟩
  | 126 => ⟨S1x256x1, .f32⟩
  | 127 => ⟨S1x256x14336, .f32⟩
  | _ => ⟨S1x256x4096, .bf16⟩

abbrev hbmTy0_1 (i : Nat) : BufTy := match i % 128 with
  | 0 => ⟨S1x256x14336, .f32⟩
  | 1 => ⟨S1x256x14336, .bf16⟩
  | 2 => ⟨S1x256x14336, .bf16⟩
  | 3 => ⟨S256x14336, .bf16⟩
  | 4 => ⟨S256x14336, .bf16⟩
  | 5 => ⟨S256x4096, .i8⟩
  | 6 => ⟨S256x1, .f32⟩
  | _ => ⟨S1x256x4096, .bf16⟩

abbrev hbmTy (i : Nat) : BufTy := match i / 128 with
  | 0 => hbmTy0_0 i
  | 1 => hbmTy0_1 i
  | _ => ⟨S1x256x4096, .bf16⟩

abbrev bufTy : (tb : Table) → Fin (tcTables nBuf tb) → BufTy
  | .hbm, ⟨i, _⟩ => hbmTy i
  | _, _ => ⟨S1x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v2 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v3 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v4 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v5 : Ref sig .tc := ⟨.hbm, 40, rfl⟩
abbrev main_cst_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_1 : Ref sig .tc := ⟨.hbm, 49, rfl⟩
abbrev main_v13 : Ref sig .tc := ⟨.hbm, 50, rfl⟩
abbrev main_cst_2 : Ref sig .tc := ⟨.hbm, 51, rfl⟩
abbrev main_v14 : Ref sig .tc := ⟨.hbm, 52, rfl⟩
abbrev main_v15 : Ref sig .tc := ⟨.hbm, 53, rfl⟩
abbrev main_cst_3 : Ref sig .tc := ⟨.hbm, 54, rfl⟩
abbrev main_v16 : Ref sig .tc := ⟨.hbm, 55, rfl⟩
abbrev main_v17 : Ref sig .tc := ⟨.hbm, 56, rfl⟩
abbrev main_cst_4 : Ref sig .tc := ⟨.hbm, 57, rfl⟩
abbrev main_call6_v0 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c : Ref sig .tc := ⟨.hbm, 64, rfl⟩
abbrev main_c_5 : Ref sig .tc := ⟨.hbm, 65, rfl⟩
abbrev main_call8_v0 : Ref sig .tc := ⟨.hbm, 66, rfl⟩
abbrev main_call8_v1 : Ref sig .tc := ⟨.hbm, 67, rfl⟩
abbrev main_call8_v2 : Ref sig .tc := ⟨.hbm, 68, rfl⟩
abbrev main_call8_v3 : Ref sig .tc := ⟨.hbm, 69, rfl⟩
abbrev main_call8_v4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26_0 : Ref sig .tc := ⟨.hbm, 74, rfl⟩
abbrev main_v26_1 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_6 : Ref sig .tc := ⟨.hbm, 95, rfl⟩
abbrev main_v46 : Ref sig .tc := ⟨.hbm, 96, rfl⟩
abbrev main_v47 : Ref sig .tc := ⟨.hbm, 97, rfl⟩
abbrev main_c_7 : Ref sig .tc := ⟨.hbm, 98, rfl⟩
abbrev main_v48 : Ref sig .tc := ⟨.hbm, 99, rfl⟩
abbrev main_v49 : Ref sig .tc := ⟨.hbm, 100, rfl⟩
abbrev main_c_8 : Ref sig .tc := ⟨.hbm, 101, rfl⟩
abbrev main_v50 : Ref sig .tc := ⟨.hbm, 102, rfl⟩
abbrev main_v51 : Ref sig .tc := ⟨.hbm, 103, rfl⟩
abbrev main_c_9 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩

abbrev nD : Nat := 1
abbrev τ : Topo := Topo.v7x

variable {F : FTy → Type} [FloatOps F]
-- ==== Proof.Body.Shared.lean ====
/- What the body's two cases share: the condition under which the first grid point fills the scratch, in closed form;
   each window's staging memref at a point; and the scratch operands, owned at some contents. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x4096 .bf16 := Memref.whole cc0_scratch0
abbrev scM0_1 : Memref sig .tc .vmem S256x4096 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.Body.RunA.lean ====
/- The body at the first grid point, where it fills the scratch: what its stores leave in every buffer, as lists of pieces. -/
module

public import proofs.«01_k».proof.Proof.Body.Shared

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the body's stores leave in each output and scratch buffer at the first point, as pieces (last first), WITH the proof
    that on whole memrefs — the inputs' at their contents, the outputs' and the scratch at anything — the body runs to the
    continuation holding the inputs' as they were and every other buffer with its pieces written. -/
noncomputable def runA (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole) (hc0 : cond0_0 i)
    (x0 : Vec F S256x4096 .bf16) (x1 : Vec F S256x4096 .bf16) (x2 : Vec F S256x256 .bf16) (x3 : Vec F S2048x512 .i8) (x4 : Vec F S32x512 .f32) :
    Σ' (L5 : List (View.Piece (Elt F) S256x512 .bf16)), Σ' (L6 : List (View.Piece (Elt F) S256x512 .bf16)), Σ' (L7 : List (View.Piece (Elt F) S256x4096 .i8)), Σ' (L8 : List (View.Piece (Elt F) S256x1 .f32)), Σ' (LS0 : List (View.Piece (Elt F) S512x4096 .bf16)), { LS1 : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_qspec_linear_eq_skeleton]; unfold cc0_qspec_linear_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [HS0]
    · iexists _; iexact HS0
    iexists _; iexact HS1

end Cert.KernelIdeal.Body

end
-- ==== Proof.Body.RunB.lean ====
/- The body at every later grid point: it reads the scratch and the per-row scale and stores its two blocks. -/
module

public import proofs.«01_k».proof.Proof.Body.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the body's stores leave in its two blocks at a later point, as pieces, WITH the proof that on whole memrefs — the inputs',
    the codes', the scale's and the stacked activations' at their contents, the rest at anything — the body runs to the
    continuation holding those as they were and the two blocks with their pieces written. -/
noncomputable def runB (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole) (hc0 : ¬cond0_0 i)
    (x0 : Vec F S256x4096 .bf16) (x1 : Vec F S256x4096 .bf16) (x2 : Vec F S256x256 .bf16) (x3 : Vec F S2048x512 .i8) (x4 : Vec F S32x512 .f32)
    (xc : Vec F S256x4096 .i8) (xs : Vec F S256x1 .f32) (xx : Vec F S512x4096 .bf16) :
    Σ' (L5 : List (View.Piece (Elt F) S256x512 .bf16)), { L6 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare xx ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xc ∗ owns (c : Thread nD τ) arg9 fullShare xs ∗ owns (c : Thread nD τ) arg10 fullShare xx ∗ (∃ d, owns (c : Thread nD τ) arg11 fullShare d)) -∗ K ⟨⟩))
          ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_qspec_linear_eq_skeleton]; unfold cc0_qspec_linear_skel
    simp only [k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fc, %hfc, H7⟩, ⟨%fs, %hfs, H8⟩, ⟨%fx, %hfx, HS0⟩, HS1, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfc; obtain rfl := harg9.eq_unread hfs; obtain rfl := harg10.eq_unread hfx
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexact HS1

end Cert.KernelIdeal.Body

end
-- ==== Proof.Body.Arrays.lean ====
/- What the arrays of the kernel hold, in terms of one 256-column block of each: the rotated activations, the per-row scale,
   the codes, and the stack of quantised and rotated activations that the product reads. -/
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

section Blocks

variable {α : Type}

theorem row_lt (y : S256x4096.Idx) : (y 0).val < 256 := (y 0).isLt
theorem col_lt (y : S256x4096.Idx) : (y 1).val < 4096 := (y 1).isLt
theorem brow_lt (y : S256x256.Idx) : (y 0).val < 256 := (y 0).isLt
theorem bcol_lt (y : S256x256.Idx) : (y 1).val < 256 := (y 1).isLt
theorem srow_lt (y : S512x4096.Idx) : (y 0).val < 512 := (y 0).isLt
theorem scol_lt (y : S512x4096.Idx) : (y 1).val < 4096 := (y 1).isLt

/-- Columns `256 n … 256 n + 255` of a 256×4096 array. -/
def colBlock (x : S256x4096.Idx → α) (n : Fin 16) : S256x256.Idx → α := fun y =>
  x (ix2 (⟨(y 0).val, brow_lt y⟩ : Fin 256) (⟨n.val * 256 + (y 1).val, by have := n.isLt; have := bcol_lt y; omega⟩ : Fin 4096))

/-- The 256×4096 array whose column blocks are `f 0, …, f 15`. -/
def ofBlocks (f : Fin 16 → S256x256.Idx → α) : S256x4096.Idx → α := fun y =>
  f ⟨(y 1).val / 256, by have := col_lt y; omega⟩
    (ix2 (⟨(y 0).val, row_lt y⟩ : Fin 256) (⟨(y 1).val % 256, Nat.mod_lt _ (by norm_num)⟩ : Fin 256))

/-- Two 256×4096 arrays, one above the other. -/
def stack (a b : S256x4096.Idx → α) : S512x4096.Idx → α := fun y =>
  if h : (y 0).val < 256 then a (ix2 (⟨(y 0).val, h⟩ : Fin 256) (⟨(y 1).val, scol_lt y⟩ : Fin 4096))
  else b (ix2 (⟨(y 0).val - 256, by have := srow_lt y; omega⟩ : Fin 256) (⟨(y 1).val, scol_lt y⟩ : Fin 4096))

theorem stack_lo (a b : S256x4096.Idx → α) (y : S512x4096.Idx) (h : (y 0).val < 256) :
    stack a b y = a (ix2 (⟨(y 0).val, h⟩ : Fin 256) (⟨(y 1).val, scol_lt y⟩ : Fin 4096)) := dif_pos h

theorem stack_hi (a b : S256x4096.Idx → α) (y : S512x4096.Idx) (h : ¬(y 0).val < 256) :
    stack a b y = b (ix2 (⟨(y 0).val - 256, by have := srow_lt y; omega⟩ : Fin 256) (⟨(y 1).val, scol_lt y⟩ : Fin 4096)) := dif_neg h

/-- Two indices of the same two coordinates are equal. -/
theorem idx_ext {a b : ℕ} (x y : (⟨2, ![a, b]⟩ : Shape).Idx) (h0 : (x 0).val = (y 0).val) (h1 : (x 1).val = (y 1).val) : x = y := by
  funext k
  match k with
  | ⟨0, _⟩ => exact Fin.ext h0
  | ⟨1, _⟩ => exact Fin.ext h1

/-- A block's entry depends on the block's number and the entry's coordinates only. -/
theorem block_congr (f : Fin 16 → S256x256.Idx → α) {m n : Fin 16} {x y : S256x256.Idx} (hn : m.val = n.val)
    (h0 : (x 0).val = (y 0).val) (h1 : (x 1).val = (y 1).val) : f m x = f n y := by
  obtain rfl : m = n := Fin.ext hn
  exact congrArg (f m) (idx_ext x y h0 h1)

/-- Read at block `n`, an array made of blocks is that block. -/
theorem ofBlocks_at (f : Fin 16 → S256x256.Idx → α) (n : Fin 16) (x : S256x256.Idx) (y : S256x4096.Idx)
    (h0 : (y 0).val = (x 0).val) (h1 : (y 1).val = n.val * 256 + (x 1).val) : ofBlocks f y = f n x := by
  have hx := bcol_lt x
  refine block_congr f ?_ h0 ?_
  · show (y 1).val / 256 = n.val; omega
  · show (y 1).val % 256 = (x 1).val; omega

/-- The column blocks of an array made of blocks. -/
theorem colBlock_ofBlocks (f : Fin 16 → S256x256.Idx → α) (n : Fin 16) : colBlock (ofBlocks f) n = f n :=
  funext fun x => ofBlocks_at f n x _ rfl rfl

/-- The number of the column block that starts at column `off 1`. -/
def blkOf (off : Fin 2 → ℕ) : Fin 16 := Fin.ofNat 16 (off 1 / 256)

theorem blkOf_val (off : Fin 2 → ℕ) (h : off 1 + 256 ≤ 4096) : (blkOf off).val = off 1 / 256 :=
  Nat.mod_eq_of_lt (by omega)

/-- A rectangle of all rows and 256 columns starting at a multiple of 256 is a column block: what a load through it reads. -/
theorem load_colBlock {e : EltTy} {Val : EltTy → Type} (x : S256x4096.Idx → Val e) (off : Fin 2 → ℕ) (inb : ∀ a, off a + S256x256.size a ≤ S256x4096.size a)
    (h0 : off 0 = 0) (h1 : off 1 % 256 = 0) :
    (fun j => x ((Rect.unit (s := S256x4096) off S256x256.size inb).toLoadRect.idx j))
      = colBlock x (blkOf off) := by
  funext j
  refine congrArg x (idx_ext _ _ ?_ ?_)
  · show off 0 + 1 * (j 0).val = (j 0).val; omega
  · show off 1 + 1 * (j 1).val = (blkOf off).val * 256 + (j 1).val
    rw [blkOf_val off (inb 1)]; omega

/-- An array made of blocks, read at a block's own index. -/
theorem ofBlocks_emb (f : Fin 16 → S256x256.Idx → α) (off : Fin 2 → ℕ) (inb : ∀ a, off a + S256x256.size a ≤ S256x4096.size a)
    (h0 : off 0 = 0) (h1 : off 1 % 256 = 0) (x : S256x256.Idx) :
    ofBlocks f ((Rect.unit (s := S256x4096) off S256x256.size inb).emb x)
      = f (blkOf off) x := by
  refine ofBlocks_at f _ x _ ?_ ?_
  · show off 0 + 1 * (x 0).val = (x 0).val; omega
  · show off 1 + 1 * (x 1).val = (blkOf off).val * 256 + (x 1).val
    rw [blkOf_val off (inb 1)]; omega

/-- The upper array of a stack, read at a block's own index. -/
theorem stack_emb_lo (f g : Fin 16 → S256x256.Idx → α) (off : Fin 2 → ℕ) (inb : ∀ a, off a + S256x256.size a ≤ S512x4096.size a)
    (h0 : off 0 = 0) (h1 : off 1 % 256 = 0) (x : S256x256.Idx) :
    stack (ofBlocks f) (ofBlocks g) ((Rect.unit (s := S512x4096) off S256x256.size inb).emb x)
      = f (blkOf off) x := by
  have hx := brow_lt x
  have e0 : ((Rect.unit (s := S512x4096) off S256x256.size inb).emb x 0).val = (x 0).val := by
    show off 0 + 1 * (x 0).val = (x 0).val; omega
  refine (stack_lo _ _ _ (by rw [e0]; exact hx)).trans (ofBlocks_at f _ x _ e0 ?_)
  show off 1 + 1 * (x 1).val = (blkOf off).val * 256 + (x 1).val
  rw [blkOf_val off (inb 1)]; omega

/-- The lower array of a stack, read at a block's own index. -/
theorem stack_emb_hi (f g : Fin 16 → S256x256.Idx → α) (off : Fin 2 → ℕ) (inb : ∀ a, off a + S256x256.size a ≤ S512x4096.size a)
    (h0 : off 0 = 256) (h1 : off 1 % 256 = 0) (x : S256x256.Idx) :
    stack (ofBlocks f) (ofBlocks g) ((Rect.unit (s := S512x4096) off S256x256.size inb).emb x)
      = g (blkOf off) x := by
  have e0 : ((Rect.unit (s := S512x4096) off S256x256.size inb).emb x 0).val = 256 + (x 0).val := by
    show off 0 + 1 * (x 0).val = 256 + (x 0).val; omega
  refine (stack_hi _ _ _ (by rw [e0]; omega)).trans (ofBlocks_at g _ x _ ?_ ?_)
  · show ((Rect.unit (s := S512x4096) off S256x256.size inb).emb x 0).val - 256 = (x 0).val
    rw [e0]; omega
  · show off 1 + 1 * (x 1).val = (blkOf off).val * 256 + (x 1).val
    rw [blkOf_val off (inb 1)]; omega

end Blocks

variable {F : FTy → Type} [FloatOps F]

/-- Column block `n` of the rotated draft activations. -/
def rotBlock (x0 : Vec F S256x4096 .bf16) (x2 : Vec F S256x256 .bf16) (n : Fin 16) : FVec F S256x256 .f32 :=
  k0_pay1 (colBlock x0 n) x2

/-- … as the body stores it in the f32 scratch. -/
def rotStored (x0 : Vec F S256x4096 .bf16) (x2 : Vec F S256x256 .bf16) (n : Fin 16) : FVec F S256x256 .f32 :=
  k0_pay2 (colBlock x0 n) x2

/-- The running maximum of absolute values over the column blocks `0 … n`, lane by lane. -/
def runMax (x0 : Vec F S256x4096 .bf16) (x2 : Vec F S256x256 .bf16) : (n : ℕ) → n < 16 → FVec F S256x256 .f32
  | 0, h => maximumf (broadcast S256x256 (Scalar.ofBits .f32 0x00000000#32)) (absf (rotBlock x0 x2 ⟨0, h⟩))
  | n + 1, h => maximumf (runMax x0 x2 n (Nat.lt_of_succ_lt h)) (absf (rotBlock x0 x2 ⟨n + 1, h⟩))

/-- The per-row scale. -/
def scaleArr (x0 : Vec F S256x4096 .bf16) (x2 : Vec F S256x256 .bf16) : FVec F S256x1 .f32 :=
  k0_pay67 (runMax x0 x2 14 (by norm_num)) (rotBlock x0 x2 15)

/-- The codes. -/
def codesArr (x0 : Vec F S256x4096 .bf16) (x2 : Vec F S256x256 .bf16) : IVec S256x4096 8 :=
  ofBlocks fun n => k0_pay72 (scaleArr x0 x2) (rotStored x0 x2 n)

/-- The quantised draft activations above the rotated verify activations. -/
def stackArr (x0 x1 : Vec F S256x4096 .bf16) (x2 : Vec F S256x256 .bf16) : FVec F S512x4096 .bf16 :=
  stack (ofBlocks fun n => k0_pay73 (scaleArr x0 x2) (rotStored x0 x2 n)) (ofBlocks fun n => k0_pay4 (colBlock x1 n) x2)

end Cert.KernelIdeal.Body

end
-- ==== Proof.Body.CaseA.lean ====
/- What the lists of pieces that the first grid point leaves amount to, buffer by buffer: the arrays of Arrays.lean. -/
module

public import proofs.«01_k».proof.Proof.Body.RunB
public import proofs.«01_k».proof.Proof.Body.Arrays

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole) (hc0 : cond0_0 i)
    (x0 : Vec F S256x4096 .bf16) (x1 : Vec F S256x4096 .bf16) (x2 : Vec F S256x256 .bf16) (x3 : Vec F S2048x512 .i8) (x4 : Vec F S32x512 .f32)

/-- A load of 256 columns. -/
theorem ld_colBlock (X : Vec F S256x4096 .bf16) (off : Fin 2 → ℕ)
    (inb : ∀ a, off a + (![256, 256] : Fin 2 → ℕ) a ≤ S256x4096.size a) (h0 : off 0 = 0) (h1 : off 1 % 256 = 0) :
    View.ld (Val := Elt F) (e' := .bf16) X (Rect.unit (s := S256x4096) off ![256, 256] inb) = colBlock X (blkOf off) :=
  load_colBlock X off inb h0 h1

/-- The index a load of a whole buffer reads. -/
theorem whole_idx {s : Shape} (off : Fin s.rank → ℕ) (inb : ∀ a, off a + s.size a ≤ s.size a) (h0 : ∀ a, off a = 0) (j : s.Idx) :
    (Rect.unit (s := s) off s.size inb).toLoadRect.idx j = j := by
  funext a
  apply Fin.ext
  show off a + 1 * (j a).val = (j a).val
  rw [h0]; omega

/-- Stores that are blocks of `G` and cover the buffer leave `G`. -/
theorem canon_of_blocks {s : Shape} {e : EltTy} (G : s.Idx → Elt F e) (L : List (View.Piece (Elt F) s e)) (size : Fin s.rank → ℕ)
    (hp : View.PiecesOf G L) (hc : View.Piece.tiledL L size = true) : View.canon L = G := by
  funext y
  have h := View.canon_append_of_piecesOf G [] L hp y (View.cover_of_tiledL L size hc y)
  rwa [List.append_nil] at h

/-- The running maximum over the first fifteen column blocks. -/
theorem max_eq : runA.sl.r_17 c arg1 harg1 arg3 harg3 x0 x2 = runMax x0 x2 14 (by norm_num) := by
  frame_out [runA.sl.r_17]
  simp (disch := first | rfl | decide) only [ld_colBlock]
  rfl

/-- The last column block of the rotated draft activations. -/
theorem last_eq : runA.sl.r_18 c arg1 harg1 arg3 harg3 x0 x2 = rotBlock x0 x2 15 := by
  frame_out [runA.sl.r_18]
  simp (disch := first | rfl | decide) only [ld_colBlock]
  rfl

/-- The scale the first phase computes. -/
theorem scale_eq : runA.sl.r_19 c arg1 harg1 arg3 harg3 x0 x2 = scaleArr x0 x2 := by
  simp only [runA.sl.r_19, max_eq, last_eq]
  rfl

/-- One stored column block of an array made of blocks. -/
theorem piece_of {α : Type} (f : Fin 16 → S256x256.Idx → α) (P : S256x256.Idx → α) (off : Fin 2 → ℕ)
    (inb : ∀ a, off a + (![256, 256] : Fin 2 → ℕ) a ≤ S256x4096.size a) (h0 : off 0 = 0) (h1 : off 1 % 256 = 0)
    (h : P = f (blkOf off)) (x : S256x256.Idx) :
    P x = ofBlocks f ((Rect.unit (s := S256x4096) off ![256, 256] inb).emb x) := by
  rw [h]; exact (ofBlocks_emb f off inb h0 h1 x).symm

/-- One stored column block of the upper array of a stack. -/
theorem piece_lo {α : Type} (f g : Fin 16 → S256x256.Idx → α) (P : S256x256.Idx → α) (off : Fin 2 → ℕ)
    (inb : ∀ a, off a + (![256, 256] : Fin 2 → ℕ) a ≤ S512x4096.size a) (h0 : off 0 = 0) (h1 : off 1 % 256 = 0)
    (h : P = f (blkOf off)) (x : S256x256.Idx) :
    P x = stack (ofBlocks f) (ofBlocks g) ((Rect.unit (s := S512x4096) off ![256, 256] inb).emb x) := by
  rw [h]; exact (stack_emb_lo f g off inb h0 h1 x).symm

/-- One stored column block of the lower array of a stack. -/
theorem piece_hi {α : Type} (f g : Fin 16 → S256x256.Idx → α) (P : S256x256.Idx → α) (off : Fin 2 → ℕ)
    (inb : ∀ a, off a + (![256, 256] : Fin 2 → ℕ) a ≤ S512x4096.size a) (h0 : off 0 = 256) (h1 : off 1 % 256 = 0)
    (h : P = g (blkOf off)) (x : S256x256.Idx) :
    P x = stack (ofBlocks f) (ofBlocks g) ((Rect.unit (s := S512x4096) off ![256, 256] inb).emb x) := by
  rw [h]; exact (stack_emb_hi f g off inb h0 h1 x).symm

/-- The scratch of rotated activations after the first phase. -/
theorem rot_canon : View.canon (runA.sl.HS1_16 c arg1 harg1 arg3 harg3 x0 x2) = ofBlocks (rotStored x0 x2) := by
  refine canon_of_blocks _ _ S256x256.size ?_ (by sl_kernel_rfl)
  unfold runA.sl.HS1_16
  refine ⟨?_, ?_, ?_, ?_, ?_, ?_, ?_, ?_, ?_, ?_, ?_, ?_, ?_, ?_, ?_, ?_, trivial⟩
  all_goals
    refine piece_of (rotStored x0 x2) _ _ (by decide) rfl rfl ?_
    frame_out
    simp (disch := first | rfl | decide) only [ld_colBlock]
    rfl

/-- A column block of it, read back. -/
theorem rot_read (off : Fin 2 → ℕ) (inb : ∀ a, off a + (![256, 256] : Fin 2 → ℕ) a ≤ S256x4096.size a) (h0 : off 0 = 0) (h1 : off 1 % 256 = 0) :
    arg11.view.readCov (runA.sl.HS1_16 c arg1 harg1 arg3 harg3 x0 x2) (Rect.unit (s := S256x4096) off ![256, 256] inb).toLoadRect
      = rotStored x0 x2 (blkOf off) := by
  rw [View.readCov_eq_canon', rot_canon]
  exact (load_colBlock (e := .f32) (Val := Elt F) (ofBlocks (rotStored x0 x2)) off inb h0 h1).trans (colBlock_ofBlocks _ _)

/-- The codes after the second phase. -/
theorem codes_canon : View.canon (runA c i arg1 harg1 arg2 harg2 arg3 harg3 arg4 harg4 arg5 harg5 arg6 harg6 arg7 harg7 arg8 harg8 arg9 harg9 arg10 harg10 arg11 harg11 hc0 x0 x1 x2 x3 x4).2.2.1 = codesArr x0 x2 := by
  refine canon_of_blocks _ _ S256x256.size ?_ (by sl_kernel_rfl)
  dsimp only [runA]
  refine ⟨?_, ?_, ?_, ?_, ?_, ?_, ?_, ?_, ?_, ?_, ?_, ?_, ?_, ?_, ?_, ?_, trivial⟩
  all_goals
    refine piece_of (fun n => k0_pay72 (scaleArr x0 x2) (rotStored x0 x2 n)) _ _ (by decide) rfl rfl ?_
    simp only [runA.sl.r_20, runA.sl.r_21, runA.sl.r_22, runA.sl.r_23, runA.sl.r_24, runA.sl.r_25, runA.sl.r_26, runA.sl.r_27, runA.sl.v384, runA.sl.v400, runA.sl.v416, runA.sl.v432, runA.sl.v448, runA.sl.v464, runA.sl.v480, runA.sl.v496, runA.sl.v512, runA.sl.v528, runA.sl.v544, runA.sl.v560, runA.sl.v576, runA.sl.v592, runA.sl.v608, runA.sl.v624, scale_eq, max_eq, last_eq]
    simp (disch := first | rfl | decide) only [rot_read]
    try rfl

/-- The scale that is stored. -/
theorem scale_canon : View.canon (runA.sl.H8_1 c arg1 harg1 arg3 harg3 x0 x2) = scaleArr x0 x2 := by
  unfold runA.sl.H8_1
  exact (View.canon_cons_unit_lit _ _ [] (by decide)).trans (scale_eq c arg1 harg1 arg3 harg3 x0 x2)

/-- The stack of quantised and rotated activations that is stored. -/
theorem stack_canon : View.canon (runA.sl.HS0_32 c arg1 harg1 arg2 harg2 arg3 harg3 arg11 x0 x1 x2) = stackArr x0 x1 x2 := by
  refine canon_of_blocks _ _ S256x256.size ?_ (by sl_kernel_rfl)
  unfold runA.sl.HS0_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals first
    | refine piece_lo (fun n => k0_pay73 (scaleArr x0 x2) (rotStored x0 x2 n)) (fun n => k0_pay4 (colBlock x1 n) x2) _ _ (by decide) rfl rfl ?_
      simp only [runA.sl.r_20, runA.sl.r_21, runA.sl.r_22, runA.sl.r_23, runA.sl.r_24, runA.sl.r_25, runA.sl.r_26, runA.sl.r_27, runA.sl.v384, runA.sl.v400, runA.sl.v416, runA.sl.v432, runA.sl.v448, runA.sl.v464, runA.sl.v480, runA.sl.v496, runA.sl.v512, runA.sl.v528, runA.sl.v544, runA.sl.v560, runA.sl.v576, runA.sl.v592, runA.sl.v608, runA.sl.v624, scale_eq, max_eq, last_eq]
      simp (disch := first | rfl | decide) only [rot_read]
      try rfl
    | refine piece_hi (fun n => k0_pay73 (scaleArr x0 x2) (rotStored x0 x2 n)) (fun n => k0_pay4 (colBlock x1 n) x2) _ _ (by decide) rfl rfl ?_
      frame_out
      simp (disch := first | rfl | decide) only [ld_colBlock]
      rfl

/-- What the last phase reads of the stack. -/
theorem stack_read : runA.sl.v26 c arg1 harg1 arg2 harg2 arg3 harg3 arg10 arg11 x0 x1 x2 = stackArr x0 x1 x2 := by
  unfold runA.sl.v26
  rw [View.readCov_eq_canon', stack_canon]
  exact funext fun j => congrArg (stackArr x0 x1 x2) (whole_idx _ _ (by decide) j)

/-- What the last phase reads of the scale. -/
theorem scale_read : runA.sl.v29 c arg1 harg1 arg3 harg3 arg9 x0 x2 = scaleArr x0 x2 := by
  unfold runA.sl.v29
  rw [View.readCov_eq_canon', scale_canon]
  exact funext fun j => congrArg (scaleArr x0 x2) (whole_idx _ _ (by decide) j)

/-- The draft result's block at the first point. -/
theorem draft_canon : View.canon (runA c i arg1 harg1 arg2 harg2 arg3 harg3 arg4 harg4 arg5 harg5 arg6 harg6 arg7 harg7 arg8 harg8 arg9 harg9 arg10 harg10 arg11 harg11 hc0 x0 x1 x2 x3 x4).1 = k0_pay120 x3 x4 (stackArr x0 x1 x2) (scaleArr x0 x2) := by
  dsimp only [runA]
  refine (View.canon_cons_unit_lit _ _ [] (by decide)).trans ?_
  rw [stack_read, scale_read]
  frame_out

/-- The verify result's block at the first point. -/
theorem verify_canon : View.canon (runA c i arg1 harg1 arg2 harg2 arg3 harg3 arg4 harg4 arg5 harg5 arg6 harg6 arg7 harg7 arg8 harg8 arg9 harg9 arg10 harg10 arg11 harg11 hc0 x0 x1 x2 x3 x4).2.1 = k0_pay121 x3 x4 (stackArr x0 x1 x2) := by
  dsimp only [runA]
  refine (View.canon_cons_unit_lit _ _ [] (by decide)).trans ?_
  simp only [runA.sl.r_28, stack_read]
  frame_out

end Cert.KernelIdeal.Body

end
-- ==== Proof.Body.Triples.lean ====
/- The body's two cases as triples whose postconditions name what each buffer holds: at the first grid point (`caseA`) the
   scale, the codes and the stack of activations are computed and the first blocks of the two products are stored; at a later
   point (`caseB`) scale, codes and stack are as they were and that point's blocks of the two products are stored. -/
module

public import proofs.«01_k».proof.Proof.Body.CaseA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole)
    (x0 : Vec F S256x4096 .bf16) (x1 : Vec F S256x4096 .bf16) (x2 : Vec F S256x256 .bf16) (x3 : Vec F S2048x512 .i8) (x4 : Vec F S32x512 .f32)

/-- A buffer written by stores that cover it is owned at what the stores amount to. -/
theorem owns_of_writes {sp : Space} {s : Shape} {e : EltTy} (mm : Memref sig .tc sp s e) (L : List (View.Piece (Elt F) s e)) (X : s.Idx → Elt F e)
    (hc : ∀ y : s.Idx, ∃ p ∈ L, y ∈ p.1.set) (hX : View.canon L = X) :
    (iprop(∃ f, mm.view.loc (c : Thread nD τ) ↦[mm.view.set]{fullShare} mm.view.writes (Elt F) f L) : sProp 𝕄) ⊢ owns (c : Thread nD τ) mm fullShare X := by
  iintro ⟨%f, H⟩
  unfold owns
  iexists _; isplitr
  · ipureintro; exact (View.read_writes_eq_canon mm.view f L hc).trans hX
  iexact H

set_option maxHeartbeats 1600000 in
theorem caseA (hc0 : cond0_0 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay120 x3 x4 (stackArr x0 x1 x2) (scaleArr x0 x2)) ∗ owns (c : Thread nD τ) arg7 fullShare (k0_pay121 x3 x4 (stackArr x0 x1 x2)) ∗ owns (c : Thread nD τ) arg8 fullShare (codesArr x0 x2) ∗ owns (c : Thread nD τ) arg9 fullShare (scaleArr x0 x2) ∗ owns (c : Thread nD τ) arg10 fullShare (stackArr x0 x1 x2) ∗ (∃ d, owns (c : Thread nD τ) arg11 fullShare d)) -∗ K ⟨⟩))
      ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K := by
  have R := (runA c i arg1 harg1 arg2 harg2 arg3 harg3 arg4 harg4 arg5 harg5 arg6 harg6 arg7 harg7 arg8 harg8 arg9 harg9 arg10 harg10 arg11 harg11 hc0 x0 x1 x2 x3 x4).2.2.2.2.2.2 E K
  iintro ⟨H0, H1, H2, H3, H4, H5, H6, H7, H8, H9, H10, Hk⟩
  iapply R
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, ⟨%f, H10⟩⟩
  iapply Hk
  isplitl [H0]; · iexact H0
  isplitl [H1]; · iexact H1
  isplitl [H2]; · iexact H2
  isplitl [H3]; · iexact H3
  isplitl [H4]; · iexact H4
  isplitl [H5]
  · iapply (owns_of_writes c arg6 _ _ (View.cover_of_tiledL _ S256x512.size (by sl_kernel_rfl)) (draft_canon c i arg1 harg1 arg2 harg2 arg3 harg3 arg4 harg4 arg5 harg5 arg6 harg6 arg7 harg7 arg8 harg8 arg9 harg9 arg10 harg10 arg11 harg11 hc0 x0 x1 x2 x3 x4)); iexact H5
  isplitl [H6]
  · iapply (owns_of_writes c arg7 _ _ (View.cover_of_tiledL _ S256x512.size (by sl_kernel_rfl)) (verify_canon c i arg1 harg1 arg2 harg2 arg3 harg3 arg4 harg4 arg5 harg5 arg6 harg6 arg7 harg7 arg8 harg8 arg9 harg9 arg10 harg10 arg11 harg11 hc0 x0 x1 x2 x3 x4)); iexact H6
  isplitl [H7]
  · iapply (owns_of_writes c arg8 _ _ (View.cover_of_tiledL _ S256x256.size (by sl_kernel_rfl)) (codes_canon c i arg1 harg1 arg2 harg2 arg3 harg3 arg4 harg4 arg5 harg5 arg6 harg6 arg7 harg7 arg8 harg8 arg9 harg9 arg10 harg10 arg11 harg11 hc0 x0 x1 x2 x3 x4)); iexact H7
  isplitl [H8]
  · iapply (owns_of_writes c arg9 _ _ (View.cover_of_tiledL _ S256x1.size (by sl_kernel_rfl)) (scale_canon c arg1 harg1 arg3 harg3 x0 x2)); iexact H8
  isplitl [H9]
  · iapply (owns_of_writes c arg10 _ _ (View.cover_of_tiledL _ S256x256.size (by sl_kernel_rfl)) (stack_canon c arg1 harg1 arg2 harg2 arg3 harg3 arg11 x0 x1 x2)); iexact H9
  iexists _
  iapply (owns_intro (c : Thread nD τ) arg11 fullShare _)
  iexact H10

/-- The draft result's block at a later point. -/
theorem draft_canonB (hc0 : ¬cond0_0 i) (xc : Vec F S256x4096 .i8) (xs : Vec F S256x1 .f32) (xx : Vec F S512x4096 .bf16) :
    View.canon (runB c i arg1 harg1 arg2 harg2 arg3 harg3 arg4 harg4 arg5 harg5 arg6 harg6 arg7 harg7 arg8 harg8 arg9 harg9 arg10 harg10 arg11 harg11 hc0 x0 x1 x2 x3 x4 xc xs xx).1 = k0_pay120 x3 x4 xx xs := by
  dsimp only [runB]
  refine (View.canon_cons_unit_lit _ _ [] (by decide)).trans ?_
  frame_out

/-- The verify result's block at a later point. -/
theorem verify_canonB (hc0 : ¬cond0_0 i) (xc : Vec F S256x4096 .i8) (xs : Vec F S256x1 .f32) (xx : Vec F S512x4096 .bf16) :
    View.canon (runB c i arg1 harg1 arg2 harg2 arg3 harg3 arg4 harg4 arg5 harg5 arg6 harg6 arg7 harg7 arg8 harg8 arg9 harg9 arg10 harg10 arg11 harg11 hc0 x0 x1 x2 x3 x4 xc xs xx).2.1 = k0_pay121 x3 x4 xx := by
  dsimp only [runB]
  refine (View.canon_cons_unit_lit _ _ [] (by decide)).trans ?_
  frame_out [runB.sl.r]

set_option maxHeartbeats 1600000 in
theorem caseB (hc0 : ¬cond0_0 i) (xc : Vec F S256x4096 .i8) (xs : Vec F S256x1 .f32) (xx : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare xx ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay120 x3 x4 xx xs) ∗ owns (c : Thread nD τ) arg7 fullShare (k0_pay121 x3 x4 xx) ∗ owns (c : Thread nD τ) arg8 fullShare xc ∗ owns (c : Thread nD τ) arg9 fullShare xs ∗ owns (c : Thread nD τ) arg10 fullShare xx ∗ (∃ d, owns (c : Thread nD τ) arg11 fullShare d)) -∗ K ⟨⟩))
      ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K := by
  have R := (runB c i arg1 harg1 arg2 harg2 arg3 harg3 arg4 harg4 arg5 harg5 arg6 harg6 arg7 harg7 arg8 harg8 arg9 harg9 arg10 harg10 arg11 harg11 hc0 x0 x1 x2 x3 x4 xc xs xx).2.2 E K
  iintro ⟨H0, H1, H2, H3, H4, H5, H6, H7, H8, H9, H10, Hk⟩
  iapply R
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]; · iexact H0
  isplitl [H1]; · iexact H1
  isplitl [H2]; · iexact H2
  isplitl [H3]; · iexact H3
  isplitl [H4]; · iexact H4
  isplitl [H5]
  · iapply (owns_of_writes c arg6 _ _ (View.cover_of_tiledL _ S256x512.size (by sl_kernel_rfl)) (draft_canonB c i arg1 harg1 arg2 harg2 arg3 harg3 arg4 harg4 arg5 harg5 arg6 harg6 arg7 harg7 arg8 harg8 arg9 harg9 arg10 harg10 arg11 harg11 x0 x1 x2 x3 x4 hc0 xc xs xx)); iexact H5
  isplitl [H6]
  · iapply (owns_of_writes c arg7 _ _ (View.cover_of_tiledL _ S256x512.size (by sl_kernel_rfl)) (verify_canonB c i arg1 harg1 arg2 harg2 arg3 harg3 arg4 harg4 arg5 harg5 arg6 harg6 arg7 harg7 arg8 harg8 arg9 harg9 arg10 harg10 arg11 harg11 x0 x1 x2 x3 x4 hc0 xc xs xx)); iexact H6
  isplitl [H7]; · iexact H7
  isplitl [H8]; · iexact H8
  isplitl [H9]; · iexact H9
  iexact H10

end Cert.KernelIdeal.Body

end
-- ==== Proof.Body.Frame.lean ====
/- The kernel's run with every array named: the pipeline's proof data, the body obligation at each grid point, and the run of
   the program. After the first point the scratch holds the stack of activations, and the staging buffers of the codes and the
   scale hold those until the last point writes them back. -/
module

public import proofs.«01_k».proof.Proof.Body.Triples
public import Idealize.ShloMosaic.Lib.Pipeline.TableIdle

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, lt_of_lt_of_eq (by norm_num : 0 < 28) (show 28 = cfg0.N from N_0.symm)⟩

/-- The scale, the codes and the stack of activations, from the blocks the first point reads. -/
def scaleV (c : Dev nD) : Vec F S256x1 .f32 := scaleArr (iblk m c 0 pt0) (iblk m c 2 pt0)
def codesV (c : Dev nD) : Vec F S256x4096 .i8 := codesArr (iblk m c 0 pt0) (iblk m c 2 pt0)
def stackV (c : Dev nD) : Vec F S512x4096 .bf16 := stackArr (iblk m c 0 pt0) (iblk m c 1 pt0) (iblk m c 2 pt0)

/-- The scratch between grid points: the stack of activations in the one, anything in the other (and the generator register). -/
def phiV (c : Dev nD) : sProp 𝕄 :=
  iprop(iprop(owns (c : Thread nD τ) scM0_0 fullShare (stackV m c) ∗ (∃ d, owns (c : Thread nD τ) scM0_1 fullShare d)) ∗ (∃ r, prngReg c r))

/-- The proof data of the one pipeline on core `c`: the arrays as the region finds them; after the body at point `t` each
    input's buffer at its block, the two products' at that point's blocks of them, the codes' and the scale's at theirs; the
    scratch arbitrary before the first point and `phiV` after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay120 (iblk m c 3 t) (iblk m c 4 t) (stackV m c) (scaleV m c)
    | ⟨6, _⟩ => k0_pay121 (iblk m c 3 t) (iblk m c 4 t) (stackV m c)
    | ⟨7, _⟩ => codesV m c
    | ⟨8, _⟩ => scaleV m c
  Φ t := if t.val = 0 then Pipeline.ΦA spec0 c else phiV m c
  q _ := fullShare
  owed _ := 0

theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay120 (iblk m c 3 t) (iblk m c 4 t) (stackV m c) (scaleV m c) := by dsimp only [dats]
theorem after0_6 (c : Dev nD) (t : Fin cfg0.N) : (dats m 0 c).after 6 t = k0_pay121 (iblk m c 3 t) (iblk m c 4 t) (stackV m c) := by dsimp only [dats]
theorem after0_7 (c : Dev nD) (t : Fin cfg0.N) : (dats m 0 c).after 7 t = codesV m c := by dsimp only [dats]
theorem after0_8 (c : Dev nD) (t : Fin cfg0.N) : (dats m 0 c).after 8 t = scaleV m c := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The first point stores the codes; no point but the last writes them back. -/
theorem idle0_7 (t : Fin cfg0.N) (ht : t.val = 0) : cfg0.idle 7 (cfg0.grid.coords t) = false :=
  (by decide +kernel : ∀ t : Fin grid0.N, t.val = 0 → cfg0.idle 7 (cfg0.grid.coords t) = false) t ht
theorem fresh0_7 (t : Fin cfg0.N) (ht : t.val ≠ 0) : cfg0.fresh 7 t.val = false :=
  (by decide +kernel : ∀ t : Fin grid0.N, t.val ≠ 0 → cfg0.fresh 7 t.val = false) t ht
/-- Past the first point its staging buffer holds the codes, -/
theorem before0_7 (c : Dev nD) (t : Fin cfg0.N) (ht : t.val ≠ 0) (d) : (dats m 0 c).before 7 t d = codesV m c := by
  rw [(dats m 0 c).before_out_traj 7 rfl (fun _ _ => rfl) (fun s _ _ _ => (after0_7 m c s).trans (after0_7 m c _).symm) t.val t rfl d,
    fresh0_7 t ht, if_neg Bool.false_ne_true, after0_7]
/-- which is what the body must leave there. -/
theorem leaves0_7_first (c : Dev nD) (t : Fin cfg0.N) (ht : t.val = 0) :
    (dats m 0 c).leavesExact 7 t = owns (c : Thread nD τ) (ms0_7 t) fullShare (codesV m c) := by
  unfold Dat.leavesExact; rw [idle0_7 t ht, after0_7]
theorem leaves0_7 (c : Dev nD) (t : Fin cfg0.N) (ht : t.val ≠ 0) :
    owns (c : Thread nD τ) (ms0_7 t) fullShare (codesV m c) ⊢ (dats m 0 c).leavesExact 7 t := by
  unfold Dat.leavesExact
  split
  · split
    · iintro H; iexists (fun _ => Classical.arbitrary _)
      rw [before0_7 m c t ht]; iexact H
    · rw [after0_7]
  · rw [after0_7]

/-- The first point stores the scale; no point but the last writes them back. -/
theorem idle0_8 (t : Fin cfg0.N) (ht : t.val = 0) : cfg0.idle 8 (cfg0.grid.coords t) = false :=
  (by decide +kernel : ∀ t : Fin grid0.N, t.val = 0 → cfg0.idle 8 (cfg0.grid.coords t) = false) t ht
theorem fresh0_8 (t : Fin cfg0.N) (ht : t.val ≠ 0) : cfg0.fresh 8 t.val = false :=
  (by decide +kernel : ∀ t : Fin grid0.N, t.val ≠ 0 → cfg0.fresh 8 t.val = false) t ht
/-- Past the first point its staging buffer holds the scale, -/
theorem before0_8 (c : Dev nD) (t : Fin cfg0.N) (ht : t.val ≠ 0) (d) : (dats m 0 c).before 8 t d = scaleV m c := by
  rw [(dats m 0 c).before_out_traj 8 rfl (fun _ _ => rfl) (fun s _ _ _ => (after0_8 m c s).trans (after0_8 m c _).symm) t.val t rfl d,
    fresh0_8 t ht, if_neg Bool.false_ne_true, after0_8]
/-- which is what the body must leave there. -/
theorem leaves0_8_first (c : Dev nD) (t : Fin cfg0.N) (ht : t.val = 0) :
    (dats m 0 c).leavesExact 8 t = owns (c : Thread nD τ) (ms0_8 t) fullShare (scaleV m c) := by
  unfold Dat.leavesExact; rw [idle0_8 t ht, after0_8]
theorem leaves0_8 (c : Dev nD) (t : Fin cfg0.N) (ht : t.val ≠ 0) :
    owns (c : Thread nD τ) (ms0_8 t) fullShare (scaleV m c) ⊢ (dats m 0 c).leavesExact 8 t := by
  unfold Dat.leavesExact
  split
  · split
    · iintro H; iexists (fun _ => Classical.arbitrary _)
      rw [before0_8 m c t ht]; iexact H
    · rw [after0_8]
  · rw [after0_8]

theorem phi_zero (c : Dev nD) (t : Fin (cfg0.N + 1)) (h : t.val = 0) : (dats m 0 c).Φ t = Pipeline.ΦA spec0 c := if_pos h
theorem phi_pos (c : Dev nD) (t : Fin (cfg0.N + 1)) (h : t.val ≠ 0) : (dats m 0 c).Φ t = phiV m c := if_neg h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    phi_pos m c t.succ (Nat.succ_ne_zero _)]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  have hN : t.val < 28 := lt_of_lt_of_eq t.isLt (show cfg0.N = 28 from N_0)
  by_cases h0 : t.val % 28 = 0
  · have ht : t = pt0 := Fin.ext (show t.val = 0 by omega)
    rw [phi_zero m c t.castSucc (show t.val = 0 by omega), PhiA0_eq]
    have hst : stackV m c = stackArr (iblk m c 0 t) (iblk m c 1 t) (iblk m c 2 t) := by rw [ht]; rfl
    have hsc : scaleV m c = scaleArr (iblk m c 0 t) (iblk m c 2 t) := by rw [ht]; rfl
    have hco : codesV m c = codesArr (iblk m c 0 t) (iblk m c 2 t) := by rw [ht]; rfl
    unfold phiV
    rw [leaves0_7_first m c t (show t.val = 0 by omega), leaves0_8_first m c t (show t.val = 0 by omega), hst, hsc, hco]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (caseA c (grid0.coords t) _ _ _ _ _ _ _ _ _ _ _ _ _ _ _ _ _ _ _ _ _ _ (iblk m c 0 t) (iblk m c 1 t) (iblk m c 2 t) (iblk m c 3 t) (iblk m c 4 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have ht : t.val ≠ 0 := fun h => h0 (by rw [h])
    simp only [before0_7 m c t ht, before0_8 m c t ht]
    rw [phi_pos m c t.castSucc ht]
    unfold phiV
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (caseB c (grid0.coords t) _ _ _ _ _ _ _ _ _ _ _ _ _ _ _ _ _ _ _ _ _ _ (iblk m c 0 t) (iblk m c 1 t) (iblk m c 2 t) (iblk m c 3 t) (iblk m c 4 t) (fun h => h0 ((hcond0_0 t).mp h)) (codesV m c) (scaleV m c) (stackV m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t ht); iexact H7
    iapply (leaves0_8 m c t ht); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch is again at some contents. -/
theorem phi_out (c : Dev nD) : (dats m 0 c).Φ (Fin.last cfg0.N) ⊢ (Pipeline.ΦA spec0 c : sProp 𝕄) := by
  rw [phi_pos m c _ (show cfg0.N ≠ 0 by rw [show cfg0.N = 28 from N_0]; norm_num), PhiA0_eq]
  unfold phiV
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- Every weakly fair execution of @main terminates with each array of the pipeline at what the proof data says, every other
    buffer at its contents before the region, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [phi_zero m c 0 rfl]) (hout := fun c => phi_out m c)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.KernelBody.Shared.lean ====
/- What the body's two cases share: the condition under which the first grid point fills the scratch, in closed form;
   each window's staging memref at a point; and the scratch operands, owned at some contents. -/
module

public import proofs.«01_k».proof.Proof.Gen.Kernel.Frame
public import proofs.«01_k».proof.Proof.Gen.Kernel.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x4096 .bf16 := Memref.whole cc0_scratch0
abbrev scM0_1 : Memref sig .tc .vmem S256x4096 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KernelBody.RunA.lean ====
/- The body at the first grid point, where it fills the scratch: what its stores leave in every buffer, as lists of pieces. -/
module

public import proofs.«01_k».proof.Proof.KernelBody.Shared

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the body's stores leave in each output and scratch buffer at the first point, as pieces (last first), WITH the proof
    that on whole memrefs — the inputs' at their contents, the outputs' and the scratch at anything — the body runs to the
    continuation holding the inputs' as they were and every other buffer with its pieces written. -/
noncomputable def runA (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole) (hc0 : cond0_0 i)
    (x0 : Vec F S256x4096 .bf16) (x1 : Vec F S256x4096 .bf16) (x2 : Vec F S256x256 .bf16) (x3 : Vec F S2048x512 .i8) (x4 : Vec F S32x512 .f32) :
    Σ' (L5 : List (View.Piece (Elt F) S256x512 .bf16)), Σ' (L6 : List (View.Piece (Elt F) S256x512 .bf16)), Σ' (L7 : List (View.Piece (Elt F) S256x4096 .i8)), Σ' (L8 : List (View.Piece (Elt F) S256x1 .f32)), Σ' (LS0 : List (View.Piece (Elt F) S512x4096 .bf16)), { LS1 : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_qspec_linear_eq_skeleton]; unfold cc0_qspec_linear_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [HS0]
    · iexists _; iexact HS0
    iexists _; iexact HS1

end Cert.Kernel.Body

end
-- ==== Proof.KernelBody.RunB.lean ====
/- The body at every later grid point: it reads the scratch and the per-row scale and stores its two blocks. -/
module

public import proofs.«01_k».proof.Proof.KernelBody.RunA

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- What the body's stores leave in its two blocks at a later point, as pieces, WITH the proof that on whole memrefs — the inputs',
    the codes', the scale's and the stacked activations' at their contents, the rest at anything — the body runs to the
    continuation holding those as they were and the two blocks with their pieces written. -/
noncomputable def runB (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole) (hc0 : ¬cond0_0 i)
    (x0 : Vec F S256x4096 .bf16) (x1 : Vec F S256x4096 .bf16) (x2 : Vec F S256x256 .bf16) (x3 : Vec F S2048x512 .i8) (x4 : Vec F S32x512 .f32)
    (xc : Vec F S256x4096 .i8) (xs : Vec F S256x1 .f32) (xx : Vec F S512x4096 .bf16) :
    Σ' (L5 : List (View.Piece (Elt F) S256x512 .bf16)), { L6 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare xx ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xc ∗ owns (c : Thread nD τ) arg9 fullShare xs ∗ owns (c : Thread nD τ) arg10 fullShare xx ∗ (∃ d, owns (c : Thread nD τ) arg11 fullShare d)) -∗ K ⟨⟩))
          ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_qspec_linear_eq_skeleton]; unfold cc0_qspec_linear_skel
    simp only [k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fc, %hfc, H7⟩, ⟨%fs, %hfs, H8⟩, ⟨%fx, %hfx, HS0⟩, HS1, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfc; obtain rfl := harg9.eq_unread hfs; obtain rfl := harg10.eq_unread hfx
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexact HS1

end Cert.Kernel.Body

end
-- ==== Proof.KernelBody.Arrays.lean ====
/- What the arrays of the kernel hold, in terms of one 256-column block of each: the rotated activations, the per-row scale,
   the codes, and the stack of quantised and rotated activations that the product reads. -/
module

public import proofs.«01_k».proof.Proof.Gen.Kernel.Skeleton
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Body

open Cert.Kernel Cert.Kernel.Gen
open Idealize.ShloMosaic Idealize.ShloMosaic.TcCoe

section Blocks

variable {α : Type}

theorem row_lt (y : S256x4096.Idx) : (y 0).val < 256 := (y 0).isLt
theorem col_lt (y : S256x4096.Idx) : (y 1).val < 4096 := (y 1).isLt
theorem brow_lt (y : S256x256.Idx) : (y 0).val < 256 := (y 0).isLt
theorem bcol_lt (y : S256x256.Idx) : (y 1).val < 256 := (y 1).isLt
theorem srow_lt (y : S512x4096.Idx) : (y 0).val < 512 := (y 0).isLt
theorem scol_lt (y : S512x4096.Idx) : (y 1).val < 4096 := (y 1).isLt

/-- Columns `256 n … 256 n + 255` of a 256×4096 array. -/
def colBlock (x : S256x4096.Idx → α) (n : Fin 16) : S256x256.Idx → α := fun y =>
  x (ix2 (⟨(y 0).val, brow_lt y⟩ : Fin 256) (⟨n.val * 256 + (y 1).val, by have := n.isLt; have := bcol_lt y; omega⟩ : Fin 4096))

/-- The 256×4096 array whose column blocks are `f 0, …, f 15`. -/
def ofBlocks (f : Fin 16 → S256x256.Idx → α) : S256x4096.Idx → α := fun y =>
  f ⟨(y 1).val / 256, by have := col_lt y; omega⟩
    (ix2 (⟨(y 0).val, row_lt y⟩ : Fin 256) (⟨(y 1).val % 256, Nat.mod_lt _ (by norm_num)⟩ : Fin 256))

/-- Two 256×4096 arrays, one above the other. -/
def stack (a b : S256x4096.Idx → α) : S512x4096.Idx → α := fun y =>
  if h : (y 0).val < 256 then a (ix2 (⟨(y 0).val, h⟩ : Fin 256) (⟨(y 1).val, scol_lt y⟩ : Fin 4096))
  else b (ix2 (⟨(y 0).val - 256, by have := srow_lt y; omega⟩ : Fin 256) (⟨(y 1).val, scol_lt y⟩ : Fin 4096))

theorem stack_lo (a b : S256x4096.Idx → α) (y : S512x4096.Idx) (h : (y 0).val < 256) :
    stack a b y = a (ix2 (⟨(y 0).val, h⟩ : Fin 256) (⟨(y 1).val, scol_lt y⟩ : Fin 4096)) := dif_pos h

theorem stack_hi (a b : S256x4096.Idx → α) (y : S512x4096.Idx) (h : ¬(y 0).val < 256) :
    stack a b y = b (ix2 (⟨(y 0).val - 256, by have := srow_lt y; omega⟩ : Fin 256) (⟨(y 1).val, scol_lt y⟩ : Fin 4096)) := dif_neg h

/-- Two indices of the same two coordinates are equal. -/
theorem idx_ext {a b : ℕ} (x y : (⟨2, ![a, b]⟩ : Shape).Idx) (h0 : (x 0).val = (y 0).val) (h1 : (x 1).val = (y 1).val) : x = y := by
  funext k
  match k with
  | ⟨0, _⟩ => exact Fin.ext h0
  | ⟨1, _⟩ => exact Fin.ext h1

/-- A block's entry depends on the block's number and the entry's coordinates only. -/
theorem block_congr (f : Fin 16 → S256x256.Idx → α) {m n : Fin 16} {x y : S256x256.Idx} (hn : m.val = n.val)
    (h0 : (x 0).val = (y 0).val) (h1 : (x 1).val = (y 1).val) : f m x = f n y := by
  obtain rfl : m = n := Fin.ext hn
  exact congrArg (f m) (idx_ext x y h0 h1)

/-- Read at block `n`, an array made of blocks is that block. -/
theorem ofBlocks_at (f : Fin 16 → S256x256.Idx → α) (n : Fin 16) (x : S256x256.Idx) (y : S256x4096.Idx)
    (h0 : (y 0).val = (x 0).val) (h1 : (y 1).val = n.val * 256 + (x 1).val) : ofBlocks f y = f n x := by
  have hx := bcol_lt x
  refine block_congr f ?_ h0 ?_
  · show (y 1).val / 256 = n.val; omega
  · show (y 1).val % 256 = (x 1).val; omega

/-- The column blocks of an array made of blocks. -/
theorem colBlock_ofBlocks (f : Fin 16 → S256x256.Idx → α) (n : Fin 16) : colBlock (ofBlocks f) n = f n :=
  funext fun x => ofBlocks_at f n x _ rfl rfl

/-- The number of the column block that starts at column `off 1`. -/
def blkOf (off : Fin 2 → ℕ) : Fin 16 := Fin.ofNat 16 (off 1 / 256)

theorem blkOf_val (off : Fin 2 → ℕ) (h : off 1 + 256 ≤ 4096) : (blkOf off).val = off 1 / 256 :=
  Nat.mod_eq_of_lt (by omega)

/-- A rectangle of all rows and 256 columns starting at a multiple of 256 is a column block: what a load through it reads. -/
theorem load_colBlock {e : EltTy} {Val : EltTy → Type} (x : S256x4096.Idx → Val e) (off : Fin 2 → ℕ) (inb : ∀ a, off a + S256x256.size a ≤ S256x4096.size a)
    (h0 : off 0 = 0) (h1 : off 1 % 256 = 0) :
    (fun j => x ((Rect.unit (s := S256x4096) off S256x256.size inb).toLoadRect.idx j))
      = colBlock x (blkOf off) := by
  funext j
  refine congrArg x (idx_ext _ _ ?_ ?_)
  · show off 0 + 1 * (j 0).val = (j 0).val; omega
  · show off 1 + 1 * (j 1).val = (blkOf off).val * 256 + (j 1).val
    rw [blkOf_val off (inb 1)]; omega

/-- An array made of blocks, read at a block's own index. -/
theorem ofBlocks_emb (f : Fin 16 → S256x256.Idx → α) (off : Fin 2 → ℕ) (inb : ∀ a, off a + S256x256.size a ≤ S256x4096.size a)
    (h0 : off 0 = 0) (h1 : off 1 % 256 = 0) (x : S256x256.Idx) :
    ofBlocks f ((Rect.unit (s := S256x4096) off S256x256.size inb).emb x)
      = f (blkOf off) x := by
  refine ofBlocks_at f _ x _ ?_ ?_
  · show off 0 + 1 * (x 0).val = (x 0).val; omega
  · show off 1 + 1 * (x 1).val = (blkOf off).val * 256 + (x 1).val
    rw [blkOf_val off (inb 1)]; omega

/-- The upper array of a stack, read at a block's own index. -/
theorem stack_emb_lo (f g : Fin 16 → S256x256.Idx → α) (off : Fin 2 → ℕ) (inb : ∀ a, off a + S256x256.size a ≤ S512x4096.size a)
    (h0 : off 0 = 0) (h1 : off 1 % 256 = 0) (x : S256x256.Idx) :
    stack (ofBlocks f) (ofBlocks g) ((Rect.unit (s := S512x4096) off S256x256.size inb).emb x)
      = f (blkOf off) x := by
  have hx := brow_lt x
  have e0 : ((Rect.unit (s := S512x4096) off S256x256.size inb).emb x 0).val = (x 0).val := by
    show off 0 + 1 * (x 0).val = (x 0).val; omega
  refine (stack_lo _ _ _ (by rw [e0]; exact hx)).trans (ofBlocks_at f _ x _ e0 ?_)
  show off 1 + 1 * (x 1).val = (blkOf off).val * 256 + (x 1).val
  rw [blkOf_val off (inb 1)]; omega

/-- The lower array of a stack, read at a block's own index. -/
theorem stack_emb_hi (f g : Fin 16 → S256x256.Idx → α) (off : Fin 2 → ℕ) (inb : ∀ a, off a + S256x256.size a ≤ S512x4096.size a)
    (h0 : off 0 = 256) (h1 : off 1 % 256 = 0) (x : S256x256.Idx) :
    stack (ofBlocks f) (ofBlocks g) ((Rect.unit (s := S512x4096) off S256x256.size inb).emb x)
      = g (blkOf off) x := by
  have e0 : ((Rect.unit (s := S512x4096) off S256x256.size inb).emb x 0).val = 256 + (x 0).val := by
    show off 0 + 1 * (x 0).val = 256 + (x 0).val; omega
  refine (stack_hi _ _ _ (by rw [e0]; omega)).trans (ofBlocks_at g _ x _ ?_ ?_)
  · show ((Rect.unit (s := S512x4096) off S256x256.size inb).emb x 0).val - 256 = (x 0).val
    rw [e0]; omega
  · show off 1 + 1 * (x 1).val = (blkOf off).val * 256 + (x 1).val
    rw [blkOf_val off (inb 1)]; omega

end Blocks

variable {F : FTy → Type} [FloatOps F]

/-- Column block `n` of the rotated draft activations. -/
def rotBlock (x0 : Vec F S256x4096 .bf16) (x2 : Vec F S256x256 .bf16) (n : Fin 16) : FVec F S256x256 .f32 :=
  k0_pay1 (colBlock x0 n) x2

/-- … as the body stores it in the f32 scratch. -/
def rotStored (x0 : Vec F S256x4096 .bf16) (x2 : Vec F S256x256 .bf16) (n : Fin 16) : FVec F S256x256 .f32 :=
  k0_pay2 (colBlock x0 n) x2

/-- The running maximum of absolute values over the column blocks `0 … n`, lane by lane. -/
def runMax (x0 : Vec F S256x4096 .bf16) (x2 : Vec F S256x256 .bf16) : (n : ℕ) → n < 16 → FVec F S256x256 .f32
  | 0, h => maximumf (broadcast S256x256 (Scalar.ofBits .f32 0x00000000#32)) (absf (rotBlock x0 x2 ⟨0, h⟩))
  | n + 1, h => maximumf (runMax x0 x2 n (Nat.lt_of_succ_lt h)) (absf (rotBlock x0 x2 ⟨n + 1, h⟩))

/-- The per-row scale. -/
def scaleArr (x0 : Vec F S256x4096 .bf16) (x2 : Vec F S256x256 .bf16) : FVec F S256x1 .f32 :=
  k0_pay67 (runMax x0 x2 14 (by norm_num)) (rotBlock x0 x2 15)

/-- The codes. -/
def codesArr (x0 : Vec F S256x4096 .bf16) (x2 : Vec F S256x256 .bf16) : IVec S256x4096 8 :=
  ofBlocks fun n => k0_pay72 (scaleArr x0 x2) (rotStored x0 x2 n)

/-- The quantised draft activations above the rotated verify activations. -/
def stackArr (x0 x1 : Vec F S256x4096 .bf16) (x2 : Vec F S256x256 .bf16) : FVec F S512x4096 .bf16 :=
  stack (ofBlocks fun n => k0_pay73 (scaleArr x0 x2) (rotStored x0 x2 n)) (ofBlocks fun n => k0_pay4 (colBlock x1 n) x2)

end Cert.Kernel.Body

end
-- ==== Proof.KernelBody.CaseA.lean ====
/- What the lists of pieces that the first grid point leaves amount to, buffer by buffer: the arrays of Arrays.lean. -/
module

public import proofs.«01_k».proof.Proof.KernelBody.RunB
public import proofs.«01_k».proof.Proof.KernelBody.Arrays

@[expose] public section

set_option maxRecDepth 16384

noncomputable section

namespace Cert.Kernel.Body

open Cert.Kernel Cert.Kernel.Gen
open Idealize.ShloMosaic Idealize.ShloMosaic.TcCoe Idealize.ShloMosaic.Tactic

variable {F : FTy → Type} [FloatOps F]
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole) (hc0 : cond0_0 i)
    (x0 : Vec F S256x4096 .bf16) (x1 : Vec F S256x4096 .bf16) (x2 : Vec F S256x256 .bf16) (x3 : Vec F S2048x512 .i8) (x4 : Vec F S32x512 .f32)

/-- A load of 256 columns. -/
theorem ld_colBlock (X : Vec F S256x4096 .bf16) (off : Fin 2 → ℕ)
    (inb : ∀ a, off a + (![256, 256] : Fin 2 → ℕ) a ≤ S256x4096.size a) (h0 : off 0 = 0) (h1 : off 1 % 256 = 0) :
    View.ld (Val := Elt F) (e' := .bf16) X (Rect.unit (s := S256x4096) off ![256, 256] inb) = colBlock X (blkOf off) :=
  load_colBlock X off inb h0 h1

/-- The index a load of a whole buffer reads. -/
theorem whole_idx {s : Shape} (off : Fin s.rank → ℕ) (inb : ∀ a, off a + s.size a ≤ s.size a) (h0 : ∀ a, off a = 0) (j : s.Idx) :
    (Rect.unit (s := s) off s.size inb).toLoadRect.idx j = j := by
  funext a
  apply Fin.ext
  show off a + 1 * (j a).val = (j a).val
  rw [h0]; omega

/-- Stores that are blocks of `G` and cover the buffer leave `G`. -/
theorem canon_of_blocks {s : Shape} {e : EltTy} (G : s.Idx → Elt F e) (L : List (View.Piece (Elt F) s e)) (size : Fin s.rank → ℕ)
    (hp : View.PiecesOf G L) (hc : View.Piece.tiledL L size = true) : View.canon L = G := by
  funext y
  have h := View.canon_append_of_piecesOf G [] L hp y (View.cover_of_tiledL L size hc y)
  rwa [List.append_nil] at h

/-- The running maximum over the first fifteen column blocks. -/
theorem max_eq : runA.sl.r_17 c arg1 harg1 arg3 harg3 x0 x2 = runMax x0 x2 14 (by norm_num) := by
  frame_out [runA.sl.r_17]
  simp (disch := first | rfl | decide) only [ld_colBlock]
  rfl

/-- The last column block of the rotated draft activations. -/
theorem last_eq : runA.sl.r_18 c arg1 harg1 arg3 harg3 x0 x2 = rotBlock x0 x2 15 := by
  frame_out [runA.sl.r_18]
  simp (disch := first | rfl | decide) only [ld_colBlock]
  rfl

/-- The scale the first phase computes. -/
theorem scale_eq : runA.sl.r_19 c arg1 harg1 arg3 harg3 x0 x2 = scaleArr x0 x2 := by
  simp only [runA.sl.r_19, max_eq, last_eq]
  rfl

/-- One stored column block of an array made of blocks. -/
theorem piece_of {α : Type} (f : Fin 16 → S256x256.Idx → α) (P : S256x256.Idx → α) (off : Fin 2 → ℕ)
    (inb : ∀ a, off a + (![256, 256] : Fin 2 → ℕ) a ≤ S256x4096.size a) (h0 : off 0 = 0) (h1 : off 1 % 256 = 0)
    (h : P = f (blkOf off)) (x : S256x256.Idx) :
    P x = ofBlocks f ((Rect.unit (s := S256x4096) off ![256, 256] inb).emb x) := by
  rw [h]; exact (ofBlocks_emb f off inb h0 h1 x).symm

/-- One stored column block of the upper array of a stack. -/
theorem piece_lo {α : Type} (f g : Fin 16 → S256x256.Idx → α) (P : S256x256.Idx → α) (off : Fin 2 → ℕ)
    (inb : ∀ a, off a + (![256, 256] : Fin 2 → ℕ) a ≤ S512x4096.size a) (h0 : off 0 = 0) (h1 : off 1 % 256 = 0)
    (h : P = f (blkOf off)) (x : S256x256.Idx) :
    P x = stack (ofBlocks f) (ofBlocks g) ((Rect.unit (s := S512x4096) off ![256, 256] inb).emb x) := by
  rw [h]; exact (stack_emb_lo f g off inb h0 h1 x).symm

/-- One stored column block of the lower array of a stack. -/
theorem piece_hi {α : Type} (f g : Fin 16 → S256x256.Idx → α) (P : S256x256.Idx → α) (off : Fin 2 → ℕ)
    (inb : ∀ a, off a + (![256, 256] : Fin 2 → ℕ) a ≤ S512x4096.size a) (h0 : off 0 = 256) (h1 : off 1 % 256 = 0)
    (h : P = g (blkOf off)) (x : S256x256.Idx) :
    P x = stack (ofBlocks f) (ofBlocks g) ((Rect.unit (s := S512x4096) off ![256, 256] inb).emb x) := by
  rw [h]; exact (stack_emb_hi f g off inb h0 h1 x).symm

/-- The scratch of rotated activations after the first phase. -/
theorem rot_canon : View.canon (runA.sl.HS1_16 c arg1 harg1 arg3 harg3 x0 x2) = ofBlocks (rotStored x0 x2) := by
  refine canon_of_blocks _ _ S256x256.size ?_ (by sl_kernel_rfl)
  unfold runA.sl.HS1_16
  refine ⟨?_, ?_, ?_, ?_, ?_, ?_, ?_, ?_, ?_, ?_, ?_, ?_, ?_, ?_, ?_, ?_, trivial⟩
  all_goals
    refine piece_of (rotStored x0 x2) _ _ (by decide) rfl rfl ?_
    frame_out
    simp (disch := first | rfl | decide) only [ld_colBlock]
    rfl

/-- A column block of it, read back. -/
theorem rot_read (off : Fin 2 → ℕ) (inb : ∀ a, off a + (![256, 256] : Fin 2 → ℕ) a ≤ S256x4096.size a) (h0 : off 0 = 0) (h1 : off 1 % 256 = 0) :
    arg11.view.readCov (runA.sl.HS1_16 c arg1 harg1 arg3 harg3 x0 x2) (Rect.unit (s := S256x4096) off ![256, 256] inb).toLoadRect
      = rotStored x0 x2 (blkOf off) := by
  rw [View.readCov_eq_canon', rot_canon]
  exact (load_colBlock (e := .f32) (Val := Elt F) (ofBlocks (rotStored x0 x2)) off inb h0 h1).trans (colBlock_ofBlocks _ _)

/-- The codes after the second phase. -/
theorem codes_canon : View.canon (runA c i arg1 harg1 arg2 harg2 arg3 harg3 arg4 harg4 arg5 harg5 arg6 harg6 arg7 harg7 arg8 harg8 arg9 harg9 arg10 harg10 arg11 harg11 hc0 x0 x1 x2 x3 x4).2.2.1 = codesArr x0 x2 := by
  refine canon_of_blocks _ _ S256x256.size ?_ (by sl_kernel_rfl)
  dsimp only [runA]
  refine ⟨?_, ?_, ?_, ?_, ?_, ?_, ?_, ?_, ?_, ?_, ?_, ?_, ?_, ?_, ?_, ?_, trivial⟩
  all_goals
    refine piece_of (fun n => k0_pay72 (scaleArr x0 x2) (rotStored x0 x2 n)) _ _ (by decide) rfl rfl ?_
    simp only [runA.sl.r_20, runA.sl.r_21, runA.sl.r_22, runA.sl.r_23, runA.sl.r_24, runA.sl.r_25, runA.sl.r_26, runA.sl.r_27, runA.sl.v384, runA.sl.v400, runA.sl.v416, runA.sl.v432, runA.sl.v448, runA.sl.v464, runA.sl.v480, runA.sl.v496, runA.sl.v512, runA.sl.v528, runA.sl.v544, runA.sl.v560, runA.sl.v576, runA.sl.v592, runA.sl.v608, runA.sl.v624, scale_eq, max_eq, last_eq]
    simp (disch := first | rfl | decide) only [rot_read]
    try rfl

/-- The scale that is stored. -/
theorem scale_canon : View.canon (runA.sl.H8_1 c arg1 harg1 arg3 harg3 x0 x2) = scaleArr x0 x2 := by
  unfold runA.sl.H8_1
  exact (View.canon_cons_unit_lit _ _ [] (by decide)).trans (scale_eq c arg1 harg1 arg3 harg3 x0 x2)

/-- The stack of quantised and rotated activations that is stored. -/
theorem stack_canon : View.canon (runA.sl.HS0_32 c arg1 harg1 arg2 harg2 arg3 harg3 arg11 x0 x1 x2) = stackArr x0 x1 x2 := by
  refine canon_of_blocks _ _ S256x256.size ?_ (by sl_kernel_rfl)
  unfold runA.sl.HS0_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals first
    | refine piece_lo (fun n => k0_pay73 (scaleArr x0 x2) (rotStored x0 x2 n)) (fun n => k0_pay4 (colBlock x1 n) x2) _ _ (by decide) rfl rfl ?_
      simp only [runA.sl.r_20, runA.sl.r_21, runA.sl.r_22, runA.sl.r_23, runA.sl.r_24, runA.sl.r_25, runA.sl.r_26, runA.sl.r_27, runA.sl.v384, runA.sl.v400, runA.sl.v416, runA.sl.v432, runA.sl.v448, runA.sl.v464, runA.sl.v480, runA.sl.v496, runA.sl.v512, runA.sl.v528, runA.sl.v544, runA.sl.v560, runA.sl.v576, runA.sl.v592, runA.sl.v608, runA.sl.v624, scale_eq, max_eq, last_eq]
      simp (disch := first | rfl | decide) only [rot_read]
      try rfl
    | refine piece_hi (fun n => k0_pay73 (scaleArr x0 x2) (rotStored x0 x2 n)) (fun n => k0_pay4 (colBlock x1 n) x2) _ _ (by decide) rfl rfl ?_
      frame_out
      simp (disch := first | rfl | decide) only [ld_colBlock]
      rfl

/-- What the last phase reads of the stack. -/
theorem stack_read : runA.sl.v26 c arg1 harg1 arg2 harg2 arg3 harg3 arg10 arg11 x0 x1 x2 = stackArr x0 x1 x2 := by
  unfold runA.sl.v26
  rw [View.readCov_eq_canon', stack_canon]
  exact funext fun j => congrArg (stackArr x0 x1 x2) (whole_idx _ _ (by decide) j)

/-- What the last phase reads of the scale. -/
theorem scale_read : runA.sl.v29 c arg1 harg1 arg3 harg3 arg9 x0 x2 = scaleArr x0 x2 := by
  unfold runA.sl.v29
  rw [View.readCov_eq_canon', scale_canon]
  exact funext fun j => congrArg (scaleArr x0 x2) (whole_idx _ _ (by decide) j)

/-- The draft result's block at the first point. -/
theorem draft_canon : View.canon (runA c i arg1 harg1 arg2 harg2 arg3 harg3 arg4 harg4 arg5 harg5 arg6 harg6 arg7 harg7 arg8 harg8 arg9 harg9 arg10 harg10 arg11 harg11 hc0 x0 x1 x2 x3 x4).1 = k0_pay120 x3 x4 (stackArr x0 x1 x2) (scaleArr x0 x2) := by
  dsimp only [runA]
  refine (View.canon_cons_unit_lit _ _ [] (by decide)).trans ?_
  rw [stack_read, scale_read]
  frame_out

/-- The verify result's block at the first point. -/
theorem verify_canon : View.canon (runA c i arg1 harg1 arg2 harg2 arg3 harg3 arg4 harg4 arg5 harg5 arg6 harg6 arg7 harg7 arg8 harg8 arg9 harg9 arg10 harg10 arg11 harg11 hc0 x0 x1 x2 x3 x4).2.1 = k0_pay121 x3 x4 (stackArr x0 x1 x2) := by
  dsimp only [runA]
  refine (View.canon_cons_unit_lit _ _ [] (by decide)).trans ?_
  simp only [runA.sl.r_28, stack_read]
  frame_out

end Cert.Kernel.Body

end
-- ==== Proof.KernelBody.Triples.lean ====
/- The body's two cases as triples whose postconditions name what each buffer holds: at the first grid point (`caseA`) the
   scale, the codes and the stack of activations are computed and the first blocks of the two products are stored; at a later
   point (`caseB`) scale, codes and stack are as they were and that point's blocks of the two products are stored. -/
module

public import proofs.«01_k».proof.Proof.KernelBody.CaseA

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x256 .bf16) (harg3 : arg3.IsWhole) (arg4 : Memref sig .tc .vmem S2048x512 .i8) (harg4 : arg4.IsWhole) (arg5 : Memref sig .tc .vmem S32x512 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x4096 .i8) (harg8 : arg8.IsWhole) (arg9 : Memref sig .tc .vmem S256x1 .f32) (harg9 : arg9.IsWhole) (arg10 : Memref sig .tc .vmem S512x4096 .bf16) (harg10 : arg10.IsWhole) (arg11 : Memref sig .tc .vmem S256x4096 .f32) (harg11 : arg11.IsWhole)
    (x0 : Vec F S256x4096 .bf16) (x1 : Vec F S256x4096 .bf16) (x2 : Vec F S256x256 .bf16) (x3 : Vec F S2048x512 .i8) (x4 : Vec F S32x512 .f32)

/-- A buffer written by stores that cover it is owned at what the stores amount to. -/
theorem owns_of_writes {sp : Space} {s : Shape} {e : EltTy} (mm : Memref sig .tc sp s e) (L : List (View.Piece (Elt F) s e)) (X : s.Idx → Elt F e)
    (hc : ∀ y : s.Idx, ∃ p ∈ L, y ∈ p.1.set) (hX : View.canon L = X) :
    (iprop(∃ f, mm.view.loc (c : Thread nD τ) ↦[mm.view.set]{fullShare} mm.view.writes (Elt F) f L) : sProp 𝕄) ⊢ owns (c : Thread nD τ) mm fullShare X := by
  iintro ⟨%f, H⟩
  unfold owns
  iexists _; isplitr
  · ipureintro; exact (View.read_writes_eq_canon mm.view f L hc).trans hX
  iexact H

set_option maxHeartbeats 1600000 in
theorem caseA (hc0 : cond0_0 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay120 x3 x4 (stackArr x0 x1 x2) (scaleArr x0 x2)) ∗ owns (c : Thread nD τ) arg7 fullShare (k0_pay121 x3 x4 (stackArr x0 x1 x2)) ∗ owns (c : Thread nD τ) arg8 fullShare (codesArr x0 x2) ∗ owns (c : Thread nD τ) arg9 fullShare (scaleArr x0 x2) ∗ owns (c : Thread nD τ) arg10 fullShare (stackArr x0 x1 x2) ∗ (∃ d, owns (c : Thread nD τ) arg11 fullShare d)) -∗ K ⟨⟩))
      ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K := by
  have R := (runA c i arg1 harg1 arg2 harg2 arg3 harg3 arg4 harg4 arg5 harg5 arg6 harg6 arg7 harg7 arg8 harg8 arg9 harg9 arg10 harg10 arg11 harg11 hc0 x0 x1 x2 x3 x4).2.2.2.2.2.2 E K
  iintro ⟨H0, H1, H2, H3, H4, H5, H6, H7, H8, H9, H10, Hk⟩
  iapply R
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, ⟨%f, H10⟩⟩
  iapply Hk
  isplitl [H0]; · iexact H0
  isplitl [H1]; · iexact H1
  isplitl [H2]; · iexact H2
  isplitl [H3]; · iexact H3
  isplitl [H4]; · iexact H4
  isplitl [H5]
  · iapply (owns_of_writes c arg6 _ _ (View.cover_of_tiledL _ S256x512.size (by sl_kernel_rfl)) (draft_canon c i arg1 harg1 arg2 harg2 arg3 harg3 arg4 harg4 arg5 harg5 arg6 harg6 arg7 harg7 arg8 harg8 arg9 harg9 arg10 harg10 arg11 harg11 hc0 x0 x1 x2 x3 x4)); iexact H5
  isplitl [H6]
  · iapply (owns_of_writes c arg7 _ _ (View.cover_of_tiledL _ S256x512.size (by sl_kernel_rfl)) (verify_canon c i arg1 harg1 arg2 harg2 arg3 harg3 arg4 harg4 arg5 harg5 arg6 harg6 arg7 harg7 arg8 harg8 arg9 harg9 arg10 harg10 arg11 harg11 hc0 x0 x1 x2 x3 x4)); iexact H6
  isplitl [H7]
  · iapply (owns_of_writes c arg8 _ _ (View.cover_of_tiledL _ S256x256.size (by sl_kernel_rfl)) (codes_canon c i arg1 harg1 arg2 harg2 arg3 harg3 arg4 harg4 arg5 harg5 arg6 harg6 arg7 harg7 arg8 harg8 arg9 harg9 arg10 harg10 arg11 harg11 hc0 x0 x1 x2 x3 x4)); iexact H7
  isplitl [H8]
  · iapply (owns_of_writes c arg9 _ _ (View.cover_of_tiledL _ S256x1.size (by sl_kernel_rfl)) (scale_canon c arg1 harg1 arg3 harg3 x0 x2)); iexact H8
  isplitl [H9]
  · iapply (owns_of_writes c arg10 _ _ (View.cover_of_tiledL _ S256x256.size (by sl_kernel_rfl)) (stack_canon c arg1 harg1 arg2 harg2 arg3 harg3 arg11 x0 x1 x2)); iexact H9
  iexists _
  iapply (owns_intro (c : Thread nD τ) arg11 fullShare _)
  iexact H10

/-- The draft result's block at a later point. -/
theorem draft_canonB (hc0 : ¬cond0_0 i) (xc : Vec F S256x4096 .i8) (xs : Vec F S256x1 .f32) (xx : Vec F S512x4096 .bf16) :
    View.canon (runB c i arg1 harg1 arg2 harg2 arg3 harg3 arg4 harg4 arg5 harg5 arg6 harg6 arg7 harg7 arg8 harg8 arg9 harg9 arg10 harg10 arg11 harg11 hc0 x0 x1 x2 x3 x4 xc xs xx).1 = k0_pay120 x3 x4 xx xs := by
  dsimp only [runB]
  refine (View.canon_cons_unit_lit _ _ [] (by decide)).trans ?_
  frame_out

/-- The verify result's block at a later point. -/
theorem verify_canonB (hc0 : ¬cond0_0 i) (xc : Vec F S256x4096 .i8) (xs : Vec F S256x1 .f32) (xx : Vec F S512x4096 .bf16) :
    View.canon (runB c i arg1 harg1 arg2 harg2 arg3 harg3 arg4 harg4 arg5 harg5 arg6 harg6 arg7 harg7 arg8 harg8 arg9 harg9 arg10 harg10 arg11 harg11 hc0 x0 x1 x2 x3 x4 xc xs xx).2.1 = k0_pay121 x3 x4 xx := by
  dsimp only [runB]
  refine (View.canon_cons_unit_lit _ _ [] (by decide)).trans ?_
  frame_out [runB.sl.r]

set_option maxHeartbeats 1600000 in
theorem caseB (hc0 : ¬cond0_0 i) (xc : Vec F S256x4096 .i8) (xs : Vec F S256x1 .f32) (xx : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xc ∗ owns (c : Thread nD τ) arg9 fullShare xs ∗ owns (c : Thread nD τ) arg10 fullShare xx ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay120 x3 x4 xx xs) ∗ owns (c : Thread nD τ) arg7 fullShare (k0_pay121 x3 x4 xx) ∗ owns (c : Thread nD τ) arg8 fullShare xc ∗ owns (c : Thread nD τ) arg9 fullShare xs ∗ owns (c : Thread nD τ) arg10 fullShare xx ∗ (∃ d, owns (c : Thread nD τ) arg11 fullShare d)) -∗ K ⟨⟩))
      ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11) K := by
  have R := (runB c i arg1 harg1 arg2 harg2 arg3 harg3 arg4 harg4 arg5 harg5 arg6 harg6 arg7 harg7 arg8 harg8 arg9 harg9 arg10 harg10 arg11 harg11 hc0 x0 x1 x2 x3 x4 xc xs xx).2.2 E K
  iintro ⟨H0, H1, H2, H3, H4, H5, H6, H7, H8, H9, H10, Hk⟩
  iapply R
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]; · iexact H0
  isplitl [H1]; · iexact H1
  isplitl [H2]; · iexact H2
  isplitl [H3]; · iexact H3
  isplitl [H4]; · iexact H4
  isplitl [H5]
  · iapply (owns_of_writes c arg6 _ _ (View.cover_of_tiledL _ S256x512.size (by sl_kernel_rfl)) (draft_canonB c i arg1 harg1 arg2 harg2 arg3 harg3 arg4 harg4 arg5 harg5 arg6 harg6 arg7 harg7 arg8 harg8 arg9 harg9 arg10 harg10 arg11 harg11 x0 x1 x2 x3 x4 hc0 xc xs xx)); iexact H5
  isplitl [H6]
  · iapply (owns_of_writes c arg7 _ _ (View.cover_of_tiledL _ S256x512.size (by sl_kernel_rfl)) (verify_canonB c i arg1 harg1 arg2 harg2 arg3 harg3 arg4 harg4 arg5 harg5 arg6 harg6 arg7 harg7 arg8 harg8 arg9 harg9 arg10 harg10 arg11 harg11 x0 x1 x2 x3 x4 hc0 xc xs xx)); iexact H6
  isplitl [H7]; · iexact H7
  isplitl [H8]; · iexact H8
  isplitl [H9]; · iexact H9
  iexact H10

end Cert.Kernel.Body

end
-- ==== Proof.KernelBody.Frame.lean ====
/- The kernel's run with every array named: the pipeline's proof data, the body obligation at each grid point, and the run of
   the program. After the first point the scratch holds the stack of activations, and the staging buffers of the codes and the
   scale hold those until the last point writes them back. -/
module

public import proofs.«01_k».proof.Proof.KernelBody.Triples
public import Idealize.ShloMosaic.Lib.Pipeline.TableIdle

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, lt_of_lt_of_eq (by norm_num : 0 < 28) (show 28 = cfg0.N from N_0.symm)⟩

/-- The scale, the codes and the stack of activations, from the blocks the first point reads. -/
def scaleV (c : Dev nD) : Vec F S256x1 .f32 := scaleArr (iblk m c 0 pt0) (iblk m c 2 pt0)
def codesV (c : Dev nD) : Vec F S256x4096 .i8 := codesArr (iblk m c 0 pt0) (iblk m c 2 pt0)
def stackV (c : Dev nD) : Vec F S512x4096 .bf16 := stackArr (iblk m c 0 pt0) (iblk m c 1 pt0) (iblk m c 2 pt0)

/-- The scratch between grid points: the stack of activations in the one, anything in the other (and the generator register). -/
def phiV (c : Dev nD) : sProp 𝕄 :=
  iprop(iprop(owns (c : Thread nD τ) scM0_0 fullShare (stackV m c) ∗ (∃ d, owns (c : Thread nD τ) scM0_1 fullShare d)) ∗ (∃ r, prngReg c r))

/-- The proof data of the one pipeline on core `c`: the arrays as the region finds them; after the body at point `t` each
    input's buffer at its block, the two products' at that point's blocks of them, the codes' and the scale's at theirs; the
    scratch arbitrary before the first point and `phiV` after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay120 (iblk m c 3 t) (iblk m c 4 t) (stackV m c) (scaleV m c)
    | ⟨6, _⟩ => k0_pay121 (iblk m c 3 t) (iblk m c 4 t) (stackV m c)
    | ⟨7, _⟩ => codesV m c
    | ⟨8, _⟩ => scaleV m c
  Φ t := if t.val = 0 then Pipeline.ΦA spec0 c else phiV m c
  q _ := fullShare
  owed _ := 0

theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay120 (iblk m c 3 t) (iblk m c 4 t) (stackV m c) (scaleV m c) := by dsimp only [dats]
theorem after0_6 (c : Dev nD) (t : Fin cfg0.N) : (dats m 0 c).after 6 t = k0_pay121 (iblk m c 3 t) (iblk m c 4 t) (stackV m c) := by dsimp only [dats]
theorem after0_7 (c : Dev nD) (t : Fin cfg0.N) : (dats m 0 c).after 7 t = codesV m c := by dsimp only [dats]
theorem after0_8 (c : Dev nD) (t : Fin cfg0.N) : (dats m 0 c).after 8 t = scaleV m c := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The first point stores the codes; no point but the last writes them back. -/
theorem idle0_7 (t : Fin cfg0.N) (ht : t.val = 0) : cfg0.idle 7 (cfg0.grid.coords t) = false :=
  (by decide +kernel : ∀ t : Fin grid0.N, t.val = 0 → cfg0.idle 7 (cfg0.grid.coords t) = false) t ht
theorem fresh0_7 (t : Fin cfg0.N) (ht : t.val ≠ 0) : cfg0.fresh 7 t.val = false :=
  (by decide +kernel : ∀ t : Fin grid0.N, t.val ≠ 0 → cfg0.fresh 7 t.val = false) t ht
/-- Past the first point its staging buffer holds the codes, -/
theorem before0_7 (c : Dev nD) (t : Fin cfg0.N) (ht : t.val ≠ 0) (d) : (dats m 0 c).before 7 t d = codesV m c := by
  rw [(dats m 0 c).before_out_traj 7 rfl (fun _ _ => rfl) (fun s _ _ _ => (after0_7 m c s).trans (after0_7 m c _).symm) t.val t rfl d,
    fresh0_7 t ht, if_neg Bool.false_ne_true, after0_7]
/-- which is what the body must leave there. -/
theorem leaves0_7_first (c : Dev nD) (t : Fin cfg0.N) (ht : t.val = 0) :
    (dats m 0 c).leavesExact 7 t = owns (c : Thread nD τ) (ms0_7 t) fullShare (codesV m c) := by
  unfold Dat.leavesExact; rw [idle0_7 t ht, after0_7]
theorem leaves0_7 (c : Dev nD) (t : Fin cfg0.N) (ht : t.val ≠ 0) :
    owns (c : Thread nD τ) (ms0_7 t) fullShare (codesV m c) ⊢ (dats m 0 c).leavesExact 7 t := by
  unfold Dat.leavesExact
  split
  · split
    · iintro H; iexists (fun _ => Classical.arbitrary _)
      rw [before0_7 m c t ht]; iexact H
    · rw [after0_7]
  · rw [after0_7]

/-- The first point stores the scale; no point but the last writes them back. -/
theorem idle0_8 (t : Fin cfg0.N) (ht : t.val = 0) : cfg0.idle 8 (cfg0.grid.coords t) = false :=
  (by decide +kernel : ∀ t : Fin grid0.N, t.val = 0 → cfg0.idle 8 (cfg0.grid.coords t) = false) t ht
theorem fresh0_8 (t : Fin cfg0.N) (ht : t.val ≠ 0) : cfg0.fresh 8 t.val = false :=
  (by decide +kernel : ∀ t : Fin grid0.N, t.val ≠ 0 → cfg0.fresh 8 t.val = false) t ht
/-- Past the first point its staging buffer holds the scale, -/
theorem before0_8 (c : Dev nD) (t : Fin cfg0.N) (ht : t.val ≠ 0) (d) : (dats m 0 c).before 8 t d = scaleV m c := by
  rw [(dats m 0 c).before_out_traj 8 rfl (fun _ _ => rfl) (fun s _ _ _ => (after0_8 m c s).trans (after0_8 m c _).symm) t.val t rfl d,
    fresh0_8 t ht, if_neg Bool.false_ne_true, after0_8]
/-- which is what the body must leave there. -/
theorem leaves0_8_first (c : Dev nD) (t : Fin cfg0.N) (ht : t.val = 0) :
    (dats m 0 c).leavesExact 8 t = owns (c : Thread nD τ) (ms0_8 t) fullShare (scaleV m c) := by
  unfold Dat.leavesExact; rw [idle0_8 t ht, after0_8]
theorem leaves0_8 (c : Dev nD) (t : Fin cfg0.N) (ht : t.val ≠ 0) :
    owns (c : Thread nD τ) (ms0_8 t) fullShare (scaleV m c) ⊢ (dats m 0 c).leavesExact 8 t := by
  unfold Dat.leavesExact
  split
  · split
    · iintro H; iexists (fun _ => Classical.arbitrary _)
      rw [before0_8 m c t ht]; iexact H
    · rw [after0_8]
  · rw [after0_8]

theorem phi_zero (c : Dev nD) (t : Fin (cfg0.N + 1)) (h : t.val = 0) : (dats m 0 c).Φ t = Pipeline.ΦA spec0 c := if_pos h
theorem phi_pos (c : Dev nD) (t : Fin (cfg0.N + 1)) (h : t.val ≠ 0) : (dats m 0 c).Φ t = phiV m c := if_neg h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    phi_pos m c t.succ (Nat.succ_ne_zero _)]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  have hN : t.val < 28 := lt_of_lt_of_eq t.isLt (show cfg0.N = 28 from N_0)
  by_cases h0 : t.val % 28 = 0
  · have ht : t = pt0 := Fin.ext (show t.val = 0 by omega)
    rw [phi_zero m c t.castSucc (show t.val = 0 by omega), PhiA0_eq]
    have hst : stackV m c = stackArr (iblk m c 0 t) (iblk m c 1 t) (iblk m c 2 t) := by rw [ht]; rfl
    have hsc : scaleV m c = scaleArr (iblk m c 0 t) (iblk m c 2 t) := by rw [ht]; rfl
    have hco : codesV m c = codesArr (iblk m c 0 t) (iblk m c 2 t) := by rw [ht]; rfl
    unfold phiV
    rw [leaves0_7_first m c t (show t.val = 0 by omega), leaves0_8_first m c t (show t.val = 0 by omega), hst, hsc, hco]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (caseA c (grid0.coords t) _ _ _ _ _ _ _ _ _ _ _ _ _ _ _ _ _ _ _ _ _ _ (iblk m c 0 t) (iblk m c 1 t) (iblk m c 2 t) (iblk m c 3 t) (iblk m c 4 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have ht : t.val ≠ 0 := fun h => h0 (by rw [h])
    simp only [before0_7 m c t ht, before0_8 m c t ht]
    rw [phi_pos m c t.castSucc ht]
    unfold phiV
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (caseB c (grid0.coords t) _ _ _ _ _ _ _ _ _ _ _ _ _ _ _ _ _ _ _ _ _ _ (iblk m c 0 t) (iblk m c 1 t) (iblk m c 2 t) (iblk m c 3 t) (iblk m c 4 t) (fun h => h0 ((hcond0_0 t).mp h)) (codesV m c) (scaleV m c) (stackV m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t ht); iexact H7
    iapply (leaves0_8 m c t ht); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch is again at some contents. -/
theorem phi_out (c : Dev nD) : (dats m 0 c).Φ (Fin.last cfg0.N) ⊢ (Pipeline.ΦA spec0 c : sProp 𝕄) := by
  rw [phi_pos m c _ (show cfg0.N ≠ 0 by rw [show cfg0.N = 28 from N_0]; norm_num), PhiA0_eq]
  unfold phiV
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- Every weakly fair execution of @main terminates with each array of the pipeline at what the proof data says, every other
    buffer at its contents before the region, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [phi_zero m c 0 rfl]) (hout := fun c => phi_out m c)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.Value.Math.lean ====
/- Facts about extended reals and small integers that the layer's mathematics rests on: a constant factor moved into a sum, the
   signs of the Hadamard matrix, a largest value taken chunk by chunk, the range of a clipped rounding, and the two four-bit
   halves of a byte. -/
module

public import Idealize.ShloMosaic.PureOps.Ideal
public import Idealize.ShloMosaic.Lib.Pointwise

@[expose] public section

set_option maxRecDepth 16384

noncomputable section

namespace Cert.Layer

open Idealize.ShloMosaic

/-- A nonnegative finite factor moves into a sum. -/
theorem sum_mul_const {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-! ## The Hadamard matrix -/

/-- Whether entry `(i, j)` of the `2ⁿ × 2ⁿ` Hadamard matrix is negative: the parity of the common binary digits of `i` and `j`. -/
def neg : ℕ → ℕ → ℕ → Bool
  | 0, _, _ => false
  | n + 1, i, j => xor (neg n (i / 2) (j / 2)) (decide (i % 2 = 1) && decide (j % 2 = 1))

/-- `-1` or `1`. -/
def sval (b : Bool) : EReal := if b then -1 else 1

theorem sval_mul (a b : Bool) : sval a * sval b = sval (xor a b) := by
  cases a <;> cases b <;> simp [sval]

/-- Entry `(i, j)` of the 128 × 128 Hadamard matrix. -/
def sg (i j : ℕ) : EReal := sval (neg 7 i j)

/-! ## Largest absolute values -/

/-- The largest of `0` and of `f (256 · 0 + j), …, f (256 · n + j)`. -/
def chunkMax (f : ℕ → EReal) (j : ℕ) : ℕ → EReal
  | 0 => max 0 (f j)
  | n + 1 => max (chunkMax f j n) (f ((n + 1) * 256 + j))

theorem chunkMax_le (f : ℕ → EReal) (j n : ℕ) (b : EReal) :
    chunkMax f j n ≤ b ↔ 0 ≤ b ∧ ∀ k ≤ n, f (k * 256 + j) ≤ b := by
  induction n with
  | zero =>
    simp [chunkMax]
  | succ n ih =>
    rw [chunkMax, max_le_iff, ih]
    constructor
    · rintro ⟨⟨h0, h⟩, h1⟩
      refine ⟨h0, fun k hk => ?_⟩
      rcases Nat.lt_or_ge k (n + 1) with hl | hl
      · exact h k (by omega)
      · obtain rfl : k = n + 1 := by omega
        exact h1
    · rintro ⟨h0, h⟩
      exact ⟨⟨h0, fun k hk => h k (by omega)⟩, h _ le_rfl⟩

/-- The maximum over 4096 values, none negative, taken in sixteen chunks of 256 from zero and then across the lanes. -/
theorem fold_chunkMax (f : ℕ → EReal) (hf : ∀ l, 0 ≤ f l) :
    (Finset.univ : Finset (Fin 256)).fold max ⊥ (fun j => chunkMax f j.val 15)
      = (Finset.univ : Finset (Fin 4096)).fold max ⊥ (fun l => f l.val) := by
  apply le_antisymm
  · rw [Finset.fold_max_le]
    refine ⟨bot_le, fun j _ => ?_⟩
    rw [chunkMax_le]
    refine ⟨?_, fun k hk => ?_⟩
    · exact (hf 0).trans (Finset.le_fold_max _ |>.2 (.inr ⟨⟨0, by norm_num⟩, Finset.mem_univ _, le_rfl⟩))
    · exact Finset.le_fold_max _ |>.2 (.inr ⟨⟨k * 256 + j.val, by have := j.isLt; omega⟩, Finset.mem_univ _, le_rfl⟩)
  · rw [Finset.fold_max_le]
    refine ⟨bot_le, fun l _ => ?_⟩
    refine Finset.le_fold_max _ |>.2 (.inr ⟨⟨l.val % 256, Nat.mod_lt _ (by norm_num)⟩, Finset.mem_univ _, ?_⟩)
    have h := ((chunkMax_le f (l.val % 256) 15 _).1 le_rfl).2 (l.val / 256) (by have := l.isLt; omega)
    have e : l.val / 256 * 256 + l.val % 256 = l.val := by omega
    rw [e] at h
    exact h

theorem abs_nonneg' (x : EReal) : 0 ≤ max x (-x) := by
  rcases le_total 0 x with h | h
  · exact le_max_of_le_left h
  · exact le_max_of_le_right (by rw [EReal.le_neg]; simpa using h)

/-! ## Clipped roundings -/

/-- To the nearest integer, ties to even, then into `[-7, 7]`. -/
def clipR (v : EReal) : EReal := min (((7 : ℤ) : ℝ) : EReal) (max (((-7 : ℤ) : ℝ) : EReal) (Ideal.liftRound Ideal.roundHalfEven v))

theorem clipR_int (v : EReal) : ∃ n : ℤ, -7 ≤ n ∧ n ≤ 7 ∧ clipR v = ((n : ℝ) : EReal) := by
  have h77 : (((-7 : ℤ) : ℝ) : EReal) ≤ (((7 : ℤ) : ℝ) : EReal) := EReal.coe_le_coe_iff.2 (by norm_num)
  unfold clipR
  induction v with
  | bot => exact ⟨-7, by norm_num, by norm_num, by rw [Ideal.liftRound_bot, max_bot_right, min_eq_right h77]⟩
  | top => exact ⟨7, by norm_num, by norm_num, by rw [Ideal.liftRound_top, max_top_right, min_top_right]⟩
  | coe r =>
    refine ⟨min 7 (max (-7) (Ideal.roundHalfEven r)), by simp, by simp, ?_⟩
    rw [Ideal.liftRound_coe]
    have hm : ∀ a b : ℝ, ((min a b : ℝ) : EReal) = min (a : EReal) b := fun a b => EReal.coe_strictMono.monotone.map_min
    have hx : ∀ a b : ℝ, ((max a b : ℝ) : EReal) = max (a : EReal) b := fun a b => EReal.coe_strictMono.monotone.map_max
    rw [Int.cast_min, Int.cast_max, hm, hx]

theorem toIntClamped_int (lo hi n : ℤ) (h0 : lo ≤ n) (h1 : n ≤ hi) : Ideal.toIntClamped lo hi ((n : ℝ) : EReal) = n := by
  rw [Ideal.toIntClamped_coe]
  simp [h0, h1]

/-- A clipped rounding converts to 8 bits directly or through 32 bits alike, -/
theorem fptosi_clipR (v : EReal) : (Ideal.fptosi 32 (clipR v)).setWidth 8 = Ideal.fptosi 8 (clipR v) := by
  obtain ⟨n, h0, h1, e⟩ := clipR_int v
  rw [e]
  unfold Ideal.fptosi
  rw [toIntClamped_int _ _ n (by norm_num; omega) (by norm_num; omega), toIntClamped_int _ _ n (by norm_num; omega) (by norm_num; omega)]
  interval_cases n <;> decide

/-- and the 8 bits, widened again, are the rounding. -/
theorem toInt_clipR (v : EReal) : (((((Ideal.fptosi 32 (clipR v)).setWidth 8).signExtend 32).toInt : ℝ) : EReal) = clipR v := by
  rw [fptosi_clipR]
  obtain ⟨n, h0, h1, e⟩ := clipR_int v
  rw [e]
  unfold Ideal.fptosi
  rw [toIntClamped_int _ _ n (by norm_num; omega) (by norm_num; omega)]
  congr 2
  interval_cases n <;> decide

/-! ## The halves of a byte -/

/-- The signed low four bits of a byte, and the high four. -/
def loNib (b : BitVec 8) : BitVec 32 := ((b.setWidth 32) <<< 28).sshiftRight 28
def hiNib (b : BitVec 8) : BitVec 32 := ((b.setWidth 32) <<< 24).sshiftRight 28

/-- Kept to four bits they are the same integers. -/
theorem loNib_toInt : ∀ b : BitVec 8, ((loNib b).setWidth 4).toInt = (loNib b).toInt := by decide +kernel
theorem hiNib_toInt : ∀ b : BitVec 8, ((hiNib b).setWidth 4).toInt = (hiNib b).toInt := by decide +kernel

/-- A sum over 4096 terms is the sum of its even and of its odd terms. -/
theorem sum_even_odd (f : ℕ → EReal) : ∑ k : Fin 4096, f k.val = ∑ p : Fin 2048, f (2 * p.val) + ∑ p : Fin 2048, f (2 * p.val + 1) := by
  rw [Fin.sum_univ_eq_sum_range (fun k => f k) 4096, Fin.sum_univ_eq_sum_range (fun p => f (2 * p)) 2048,
    Fin.sum_univ_eq_sum_range (fun p => f (2 * p + 1)) 2048, ← Finset.sum_add_distrib]
  have h : ∀ n, ∑ k ∈ Finset.range (2 * n), f k = ∑ p ∈ Finset.range n, (f (2 * p) + f (2 * p + 1)) := by
    intro n
    induction n with
    | zero => rfl
    | succ n ih =>
      rw [Finset.sum_range_succ, ← ih, show 2 * (n + 1) = 2 * n + 1 + 1 by ring, Finset.sum_range_succ, Finset.sum_range_succ, add_assoc]
  exact h 2048

end Cert.Layer

end
-- ==== Proof.Value.Spec.lean ====
/- The layer's four results as functions of its arguments over the extended reals, entry by entry: the normalised Hadamard
   rotation of each 128-column group of a token, the per-token scale and codes, the signed four-bit weights times their group's
   scale, and the products. The kernel's arrays and the reference's are both shown equal to these. -/
module

public import proofs.«01_k».proof.Proof.Value.Math

@[expose] public section

set_option maxRecDepth 16384

noncomputable section

namespace Cert.Layer

open Idealize.ShloMosaic

/-- The normalisation of the Hadamard matrix, `128 ^ (-1/2)` rounded to single precision. -/
def nrm : EReal := Ideal.ofBits .f32 0x3DB504F3#32

/-- Token `r`'s rotated activation `l`. -/
def rot (X : Fin 256 → Fin 4096 → EReal) (r : Fin 256) (l : ℕ) : EReal :=
  ∑ k : Fin 128, X r (Fin.ofNat 4096 (l / 128 * 128 + k.val)) * (sg k.val (l % 128) * nrm)

/-- Its absolute value, and the token's largest. -/
def mag (X : Fin 256 → Fin 4096 → EReal) (r : Fin 256) (l : ℕ) : EReal := max (rot X r l) (-(rot X r l))
def amax (X : Fin 256 → Fin 4096 → EReal) (r : Fin 256) : EReal :=
  (Finset.univ : Finset (Fin 4096)).fold max ⊥ fun l => mag X r l.val

/-- The token's scale: a seventh of the largest, or one. -/
def scl (X : Fin 256 → Fin 4096 → EReal) (r : Fin 256) : EReal :=
  if amax X r = 0 then 1 else Ideal.div (amax X r) (Ideal.ofBits .f32 0x40E00000#32)

/-- The quantised activation, and its code. -/
def quant (X : Fin 256 → Fin 4096 → EReal) (r : Fin 256) (l : ℕ) : EReal := clipR (Ideal.div (rot X r l) (scl X r))
def code (X : Fin 256 → Fin 4096 → EReal) (r : Fin 256) (l : ℕ) : BitVec 8 := Ideal.fptosi 8 (quant X r l)

/-- Weight `(k, n)`: an even row from the low half of a byte, an odd one from the high half, times its group's scale. -/
def wgt (W : Fin 2048 → Fin 14336 → BitVec 8) (S : Fin 32 → Fin 14336 → EReal) (k : ℕ) (n : Fin 14336) : EReal :=
  (((if k % 2 < 1 then loNib (W (Fin.ofNat 2048 (k / 2)) n) else hiNib (W (Fin.ofNat 2048 (k / 2)) n)).toInt : ℝ) : EReal)
    * S (Fin.ofNat 32 (k / 128)) n

/-- A row of activations times column `n` of the weights. -/
def prod (A : ℕ → EReal) (W : Fin 2048 → Fin 14336 → BitVec 8) (S : Fin 32 → Fin 14336 → EReal) (n : Fin 14336) : EReal :=
  ∑ k : Fin 4096, A k.val * wgt W S k.val n

/-- The draft result and the verify result. -/
def draft (X : Fin 256 → Fin 4096 → EReal) (W : Fin 2048 → Fin 14336 → BitVec 8) (S : Fin 32 → Fin 14336 → EReal)
    (r : Fin 256) (n : Fin 14336) : EReal := prod (quant X r) W S n * scl X r
def verify (X : Fin 256 → Fin 4096 → EReal) (W : Fin 2048 → Fin 14336 → BitVec 8) (S : Fin 32 → Fin 14336 → EReal)
    (r : Fin 256) (n : Fin 14336) : EReal := prod (rot X r) W S n

theorem mag_nonneg (X : Fin 256 → Fin 4096 → EReal) (r : Fin 256) (l : ℕ) : 0 ≤ mag X r l := abs_nonneg' _

theorem ofNat_eq {n : ℕ} [NeZero n] (k : ℕ) (h : k < n) : Fin.ofNat n k = ⟨k, h⟩ := Fin.ext (Nat.mod_eq_of_lt h)

theorem lit7 : (7#32).toInt = 7 := by decide
theorem litm7 : (4294967289#32).toInt = -7 := by decide

theorem nrm_real : ∃ x : ℝ, 0 ≤ x ∧ nrm = (x : EReal) := by
  refine ⟨_, ?_, by simp [nrm, Ideal.ofBits, Ideal.ieee]; rfl⟩
  positivity
theorem nrm_nonneg : 0 ≤ nrm := by
  obtain ⟨x, h, e⟩ := nrm_real
  rw [e]; exact EReal.coe_nonneg.2 h
theorem nrm_ne_top : nrm ≠ ⊤ := by
  obtain ⟨x, h, e⟩ := nrm_real
  rw [e]; exact EReal.coe_ne_top x

/-- The pattern of minus infinity. -/
theorem negInf : Ideal.ofBits .f32 0xFF800000#32 = ⊥ := by
  simp [Ideal.ofBits, Ideal.ieee]

/-- The words of the sign matrix: one, minus one, and the two zeros. -/
theorem word_one : Ideal.ofBits .bf16 0x3F80#16 = sval false := by
  simp [Ideal.ofBits, Ideal.ieee, sval]; norm_cast; norm_num
theorem word_negOne : Ideal.ofBits .bf16 0xBF80#16 = sval true := by
  simp [Ideal.ofBits, Ideal.ieee, sval]; norm_cast; norm_num
theorem word_zero : Ideal.ofBits .bf16 0x0000#16 = 0 := by
  simp [Ideal.ofBits, Ideal.ieee]
theorem word_negZero : Ideal.ofBits .bf16 0x8000#16 = 0 := by
  simp [Ideal.ofBits, Ideal.ieee]
theorem word_one32 : Ideal.ofBits .f32 0x3F800000#32 = sval false := by
  simp [Ideal.ofBits, Ideal.ieee, sval]; norm_cast; norm_num
theorem word_negOne32 : Ideal.ofBits .f32 0xBF800000#32 = sval true := by
  simp [Ideal.ofBits, Ideal.ieee, sval]; norm_cast; norm_num

end Cert.Layer

end
-- ==== Proof.Value.Kernel.lean ====
/- The kernel's arrays over the extended reals, entry by entry: what the first grid point computes from the activations and the
   sign matrix, and what each point stores, are the layer's rotation, scale, codes and products. -/
module

public import proofs.«01_k».proof.Proof.Body.Arrays
public import proofs.«01_k».proof.Proof.Value.Spec

@[expose] public section

set_option maxRecDepth 16384

noncomputable section

namespace Cert.KernelIdeal.Body

open Cert.KernelIdeal Cert.KernelIdeal.Gen Cert.Layer
open Idealize.ShloMosaic Idealize.ShloMosaic.TcCoe

/-- A 256×4096 array read by its two coordinates. -/
def acts (x : FVec Ideal S256x4096 .bf16) : Fin 256 → Fin 4096 → EReal := fun r l => x (ix2 r l)

/-- The kernel's sign matrix: two 128 × 128 Hadamard matrices on the diagonal. -/
def IsSigns (h : FVec Ideal S256x256 .bf16) : Prop :=
  ∀ k j : Fin 256, h (ix2 k j) = if k.val / 128 = j.val / 128 then sg (k.val % 128) (j.val % 128) else 0

section Rot

variable (x : FVec Ideal S256x4096 .bf16) (h : FVec Ideal S256x256 .bf16) (hh : IsSigns h)
include hh

/-- A column block times the sign matrix, normalised, is the block of rotated activations. -/
theorem block_rot (n : Fin 16) (r j : Fin 256) :
    (∑ k : Fin 256, colBlock x n (ix2 r k) * h (ix2 k j)) * nrm = rot (acts x) r (n.val * 256 + j.val) := by
  have hj := j.isLt
  have hn := n.isLt
  have term : ∀ a : Fin 2, ∀ b : Fin 128, colBlock x n (ix2 r (⟨a.val * 128 + b.val, by have := a.isLt; have := b.isLt; omega⟩ : Fin 256))
        * h (ix2 (⟨a.val * 128 + b.val, by have := a.isLt; have := b.isLt; omega⟩ : Fin 256) j)
      = if a.val = j.val / 128 then acts x r (Fin.ofNat 4096 ((n.val * 256 + j.val) / 128 * 128 + b.val)) * sg b.val (j.val % 128) else 0 := by
    intro a b
    have ha := a.isLt
    have hb := b.isLt
    rw [hh]
    dsimp only
    rw [show (a.val * 128 + b.val) / 128 = a.val by omega, show (a.val * 128 + b.val) % 128 = b.val by omega]
    split
    · next e =>
      refine congrArg (· * sg b.val (j.val % 128)) (congrArg x (idx_ext _ _ rfl ?_))
      show n.val * 256 + (a.val * 128 + b.val) = ((n.val * 256 + j.val) / 128 * 128 + b.val) % 4096
      omega
    · rw [mul_zero]
  rw [Fin.sum_univ_tiles 2 128 rfl]
  simp only [term]
  rw [Finset.sum_comm]
  unfold rot
  rw [sum_mul_const _ _ _ nrm_nonneg nrm_ne_top]
  refine Finset.sum_congr rfl fun b _ => ?_
  rw [← mul_assoc, show (n.val * 256 + j.val) % 128 = j.val % 128 by omega]
  refine congrArg (· * nrm) ?_
  refine (Finset.sum_eq_single (⟨j.val / 128, by omega⟩ : Fin 2) (fun a _ ne => if_neg fun e => ne (Fin.ext e))
    fun ne => absurd (Finset.mem_univ _) ne).trans (if_pos rfl)

/-- The rotated block, -/
theorem rotBlock_at (n : Fin 16) (r j : Fin 256) : rotBlock (F := Ideal) x h n (ix2 r j) = rot (acts x) r (n.val * 256 + j.val) := by
  rw [← block_rot x h hh]
  pointwise [rotBlock, k0_pay1]
  rfl

/-- as it is stored, -/
theorem rotStored_at (n : Fin 16) (r j : Fin 256) : rotStored (F := Ideal) x h n (ix2 r j) = rot (acts x) r (n.val * 256 + j.val) := by
  rw [← rotBlock_at x h hh]
  pointwise [rotStored, rotBlock, k0_pay2]

/-- and as the verify rows of the stack. -/
theorem pay4_at (n : Fin 16) (r j : Fin 256) : k0_pay4 (F := Ideal) (colBlock x n) h (ix2 r j) = rot (acts x) r (n.val * 256 + j.val) := by
  rw [← block_rot x h hh]
  pointwise [k0_pay4]
  rfl

/-- The running maximum. -/
theorem runMax_at (n : ℕ) (hn : n < 16) (r j : Fin 256) : runMax (F := Ideal) x h n hn (ix2 r j) = chunkMax (mag (acts x) r) j.val n := by
  induction n with
  | zero =>
    pointwise [runMax]
    rw [rotBlock_at x h hh]
    show max 0 (max _ _) = max 0 (mag _ _ _)
    unfold mag
    rw [show (0 : Fin 16).val * 256 + j.val = j.val by simp]
  | succ n ih =>
    pointwise [runMax]
    rw [ih (by omega), rotBlock_at x h hh]
    rfl

/-- The scale. -/
theorem scaleArr_at (r : Fin 256) : scaleArr (F := Ideal) x h (ix2 r 0) = scl (acts x) r := by
  have e : (Finset.univ : Finset (Fin 256)).fold max ⊥ (fun j => max (runMax (F := Ideal) x h 14 (by norm_num) (ix2 r j)) (FloatOps.absf (rotBlock (F := Ideal) x h 15 (ix2 r j))))
      = amax (acts x) r := by
    unfold amax
    rw [← fold_chunkMax _ (mag_nonneg _ r)]
    refine congrArg (fun f => (Finset.univ : Finset (Fin 256)).fold max ⊥ f) (funext fun j => ?_)
    rw [runMax_at x h hh, rotBlock_at x h hh]
    rfl
  pointwise [scaleArr, k0_pay67]
  rw [negInf, e]
  rfl

/-- The quantised activation. -/
theorem pay73_at (n : Fin 16) (r j : Fin 256) :
    k0_pay73 (F := Ideal) (scaleArr (F := Ideal) x h) (rotStored (F := Ideal) x h n) (ix2 r j) = quant (acts x) r (n.val * 256 + j.val) := by
  pointwise [k0_pay73, k0_pay71]
  rw [scaleArr_at x h hh, rotStored_at x h hh, lit7, litm7]
  rfl

theorem pay72_at (n : Fin 16) (r j : Fin 256) :
    k0_pay72 (F := Ideal) (scaleArr (F := Ideal) x h) (rotStored (F := Ideal) x h n) (ix2 r j) = code (acts x) r (n.val * 256 + j.val) := by
  pointwise [k0_pay72, k0_pay71]
  rw [scaleArr_at x h hh, rotStored_at x h hh, lit7, litm7]
  rfl

/-- The codes. -/
theorem codesArr_at (r : Fin 256) (l : Fin 4096) : codesArr (F := Ideal) x h (ix2 r l) = code (acts x) r l.val := by
  have hl := l.isLt
  have e := pay72_at x h hh ⟨l.val / 256, by omega⟩ r ⟨l.val % 256, Nat.mod_lt _ (by norm_num)⟩
  rw [show (⟨l.val / 256, by omega⟩ : Fin 16).val * 256 + (⟨l.val % 256, Nat.mod_lt _ (by norm_num)⟩ : Fin 256).val = l.val from
    show l.val / 256 * 256 + l.val % 256 = l.val by omega] at e
  exact e

end Rot

/-- The stack: the quantised draft activations above the rotated verify activations. -/
theorem stackArr_lo (x y : FVec Ideal S256x4096 .bf16) (h : FVec Ideal S256x256 .bf16) (hh : IsSigns h) (r : Fin 256) (l : Fin 4096) :
    stackArr (F := Ideal) x y h (ix2 (⟨r.val, by have := r.isLt; omega⟩ : Fin 512) l) = quant (acts x) r l.val := by
  have hl := l.isLt
  refine (stack_lo _ _ _ r.isLt).trans ?_
  have e := pay73_at x h hh ⟨l.val / 256, by omega⟩ r ⟨l.val % 256, Nat.mod_lt _ (by norm_num)⟩
  rw [show (⟨l.val / 256, by omega⟩ : Fin 16).val * 256 + (⟨l.val % 256, Nat.mod_lt _ (by norm_num)⟩ : Fin 256).val = l.val from
    show l.val / 256 * 256 + l.val % 256 = l.val by omega] at e
  exact e

theorem stackArr_hi (x y : FVec Ideal S256x4096 .bf16) (h : FVec Ideal S256x256 .bf16) (hh : IsSigns h) (r : Fin 256) (l : Fin 4096) :
    stackArr (F := Ideal) x y h (ix2 (⟨256 + r.val, by have := r.isLt; omega⟩ : Fin 512) l) = rot (acts y) r l.val := by
  have hl := l.isLt
  refine (stack_hi _ _ _ (show ¬(256 + r.val < 256) by omega)).trans ?_
  have e := pay4_at y h hh ⟨l.val / 256, by omega⟩ r ⟨l.val % 256, Nat.mod_lt _ (by norm_num)⟩
  rw [show (⟨l.val / 256, by omega⟩ : Fin 16).val * 256 + (⟨l.val % 256, Nat.mod_lt _ (by norm_num)⟩ : Fin 256).val = l.val from
    show l.val / 256 * 256 + l.val % 256 = l.val by omega] at e
  refine Eq.trans ?_ e
  refine block_congr (fun n => k0_pay4 (F := Ideal) (colBlock y n) h) rfl ?_ rfl
  show 256 + r.val - 256 = r.val
  omega

/-- The kernel's shifts. -/
theorem lo_eq (b : BitVec 8) : IntOp.shrsi .vector (IntOp.shli .vector (BitVec.setWidth 32 b) 28#32) 28#32 = loNib b := rfl
theorem hi_eq (b : BitVec 8) : IntOp.shrsi .vector (IntOp.shli .vector (BitVec.setWidth 32 b) 24#32) 28#32 = hiNib b := rfl

/-- One point's products, over the columns `n` of the whole weights that its blocks hold. -/
theorem point_sum (W : Fin 2048 → Fin 14336 → BitVec 8) (S : Fin 32 → Fin 14336 → EReal) (A : ℕ → EReal)
    (w : Vec Ideal S2048x512 .i8) (s : FVec Ideal S32x512 .f32) (a : Fin 4096 → EReal) (j : Fin 512) (n : Fin 14336)
    (hw : ∀ p, w (ix2 p j) = W p n) (hs : ∀ g, s (ix2 g j) = S g n) (ha : ∀ k : Fin 4096, a k = A k.val) :
    (∑ k : Fin 4096, a k * (FloatOps.sitofp (F := Ideal) FTy.bf16 (BitVec.setWidth 4
        (if _h : k.val % 2 < 1 then
            IntOp.shrsi .vector (IntOp.shli .vector (BitVec.setWidth 32 (w (ix2 (⟨k.val / 2, by have := k.isLt; omega⟩ : Fin 2048) j))) 28#32) 28#32
          else IntOp.shrsi .vector (IntOp.shli .vector (BitVec.setWidth 32 (w (ix2 (⟨k.val / 2, by have := k.isLt; omega⟩ : Fin 2048) j))) 24#32) 28#32))
        * s (ix2 (⟨k.val / 128, by have := k.isLt; omega⟩ : Fin 32) j))) = prod A W S n := by
  refine Finset.sum_congr rfl fun k _ => ?_
  have hk := k.isLt
  rw [ha, hs]
  unfold wgt
  rw [ofNat_eq (k.val / 2) (by omega), ofNat_eq (k.val / 128) (by omega)]
  refine congrArg (A k.val * ·) (congrArg (· * _) ?_)
  show ((((BitVec.setWidth 4 _).toInt : ℤ) : ℝ) : EReal) = _
  refine congrArg (fun z : ℤ => ((z : ℝ) : EReal)) ?_
  by_cases e : k.val % 2 < 1
  · rw [dif_pos e, if_pos e, hw, lo_eq, loNib_toInt]
  · rw [dif_neg e, if_neg e, hw, hi_eq, hiNib_toInt]

section Point

variable (W : Fin 2048 → Fin 14336 → BitVec 8) (S : Fin 32 → Fin 14336 → EReal)
  (w : Vec Ideal S2048x512 .i8) (s : FVec Ideal S32x512 .f32) (x y : FVec Ideal S256x4096 .bf16) (h : FVec Ideal S256x256 .bf16) (hh : IsSigns h)
  (r : Fin 256) (j : Fin 512) (n : Fin 14336) (hw : ∀ p, w (ix2 p j) = W p n) (hs : ∀ g, s (ix2 g j) = S g n)
include hh hw hs

/-- What a point stores of the draft result, -/
theorem pay120_at : k0_pay120 (F := Ideal) w s (stackArr (F := Ideal) x y h) (scaleArr (F := Ideal) x h) (ix2 r j) = draft (acts x) W S r n := by
  pointwise [k0_pay120, k0_pay119]
  rw [scaleArr_at x h hh]
  refine congrArg (· * scl (acts x) r) (point_sum W S _ w s _ j n hw hs fun k => ?_)
  exact stackArr_lo x y h hh r k

/-- and of the verify result. -/
theorem pay121_at : k0_pay121 (F := Ideal) w s (stackArr (F := Ideal) x y h) (ix2 r j) = verify (acts y) W S r n := by
  pointwise [k0_pay121, k0_pay119]
  refine point_sum W S _ w s _ j n hw hs fun k => ?_
  exact stackArr_hi x y h hh r k

end Point

end Cert.KernelIdeal.Body

end
-- ==== Proof.Value.Signs.Rows.lean ====
/- What a row of the kernel's sign matrix is to hold, as words. -/
module

public import proofs.«01_k».proof.Proof.Gen.KernelIdeal.Skeleton
public import proofs.«01_k».proof.Proof.Value.Spec

@[expose] public section

noncomputable section

namespace Cert.KernelIdeal.Body

open Cert.KernelIdeal Cert.Layer
open Idealize.ShloMosaic

/-- The words of four rows of the sign matrix from row `4 c`: on the diagonal blocks 1 or -1, off them zero with that sign. -/
def SignRows (c : ℕ) (hc : c < 64) : Prop :=
  ∀ a : Fin 4, ∀ j : Fin 256, lit0 (⟨(4 * c + a.val) * 256 + j.val, by omega⟩ : Fin 65536) =
    if (4 * c + a.val) / 128 = j.val / 128 then (if neg 7 ((4 * c + a.val) % 128) (j.val % 128) then 0xBF80#16 else 0x3F80#16)
    else (if neg 7 ((4 * c + a.val) % 128) (j.val % 128) then 0x8000#16 else 0x0000#16)

end Cert.KernelIdeal.Body

end
-- ==== Proof.Value.Signs.Q0.lean ====
/- Rows 0 to 63 of the kernel's sign matrix, read off its literal. -/
module

public import proofs.«01_k».proof.Proof.Value.Signs.Rows

@[expose] public section

set_option maxRecDepth 65536

noncomputable section

namespace Cert.KernelIdeal.Body

theorem signRows_0 : SignRows 0 (by norm_num) := by unfold SignRows; decide +kernel
theorem signRows_1 : SignRows 1 (by norm_num) := by unfold SignRows; decide +kernel
theorem signRows_2 : SignRows 2 (by norm_num) := by unfold SignRows; decide +kernel
theorem signRows_3 : SignRows 3 (by norm_num) := by unfold SignRows; decide +kernel
theorem signRows_4 : SignRows 4 (by norm_num) := by unfold SignRows; decide +kernel
theorem signRows_5 : SignRows 5 (by norm_num) := by unfold SignRows; decide +kernel
theorem signRows_6 : SignRows 6 (by norm_num) := by unfold SignRows; decide +kernel
theorem signRows_7 : SignRows 7 (by norm_num) := by unfold SignRows; decide +kernel
theorem signRows_8 : SignRows 8 (by norm_num) := by unfold SignRows; decide +kernel
theorem signRows_9 : SignRows 9 (by norm_num) := by unfold SignRows; decide +kernel
theorem signRows_10 : SignRows 10 (by norm_num) := by unfold SignRows; decide +kernel
theorem signRows_11 : SignRows 11 (by norm_num) := by unfold SignRows; decide +kernel
theorem signRows_12 : SignRows 12 (by norm_num) := by unfold SignRows; decide +kernel
theorem signRows_13 : SignRows 13 (by norm_num) := by unfold SignRows; decide +kernel
theorem signRows_14 : SignRows 14 (by norm_num) := by unfold SignRows; decide +kernel
theorem signRows_15 : SignRows 15 (by norm_num) := by unfold SignRows; decide +kernel

/-- All of them. -/
theorem signRows_q0 : ∀ c (hc : c < 64), 0 ≤ c → c < 16 → SignRows c hc := by
  intro c hc lo hi
  interval_cases c
  · exact signRows_0
  · exact signRows_1
  · exact signRows_2
  · exact signRows_3
  · exact signRows_4
  · exact signRows_5
  · exact signRows_6
  · exact signRows_7
  · exact signRows_8
  · exact signRows_9
  · exact signRows_10
  · exact signRows_11
  · exact signRows_12
  · exact signRows_13
  · exact signRows_14
  · exact signRows_15

end Cert.KernelIdeal.Body

end
-- ==== Proof.Value.Signs.Q1.lean ====
/- Rows 64 to 127 of the kernel's sign matrix, read off its literal. -/
module

public import proofs.«01_k».proof.Proof.Value.Signs.Rows

@[expose] public section

set_option maxRecDepth 65536

noncomputable section

namespace Cert.KernelIdeal.Body

theorem signRows_16 : SignRows 16 (by norm_num) := by unfold SignRows; decide +kernel
theorem signRows_17 : SignRows 17 (by norm_num) := by unfold SignRows; decide +kernel
theorem signRows_18 : SignRows 18 (by norm_num) := by unfold SignRows; decide +kernel
theorem signRows_19 : SignRows 19 (by norm_num) := by unfold SignRows; decide +kernel
theorem signRows_20 : SignRows 20 (by norm_num) := by unfold SignRows; decide +kernel
theorem signRows_21 : SignRows 21 (by norm_num) := by unfold SignRows; decide +kernel
theorem signRows_22 : SignRows 22 (by norm_num) := by unfold SignRows; decide +kernel
theorem signRows_23 : SignRows 23 (by norm_num) := by unfold SignRows; decide +kernel
theorem signRows_24 : SignRows 24 (by norm_num) := by unfold SignRows; decide +kernel
theorem signRows_25 : SignRows 25 (by norm_num) := by unfold SignRows; decide +kernel
theorem signRows_26 : SignRows 26 (by norm_num) := by unfold SignRows; decide +kernel
theorem signRows_27 : SignRows 27 (by norm_num) := by unfold SignRows; decide +kernel
theorem signRows_28 : SignRows 28 (by norm_num) := by unfold SignRows; decide +kernel
theorem signRows_29 : SignRows 29 (by norm_num) := by unfold SignRows; decide +kernel
theorem signRows_30 : SignRows 30 (by norm_num) := by unfold SignRows; decide +kernel
theorem signRows_31 : SignRows 31 (by norm_num) := by unfold SignRows; decide +kernel

/-- All of them. -/
theorem signRows_q1 : ∀ c (hc : c < 64), 16 ≤ c → c < 32 → SignRows c hc := by
  intro c hc lo hi
  interval_cases c
  · exact signRows_16
  · exact signRows_17
  · exact signRows_18
  · exact signRows_19
  · exact signRows_20
  · exact signRows_21
  · exact signRows_22
  · exact signRows_23
  · exact signRows_24
  · exact signRows_25
  · exact signRows_26
  · exact signRows_27
  · exact signRows_28
  · exact signRows_29
  · exact signRows_30
  · exact signRows_31

end Cert.KernelIdeal.Body

end
-- ==== Proof.Value.Signs.Q2.lean ====
/- Rows 128 to 191 of the kernel's sign matrix, read off its literal. -/
module

public import proofs.«01_k».proof.Proof.Value.Signs.Rows

@[expose] public section

set_option maxRecDepth 65536

noncomputable section

namespace Cert.KernelIdeal.Body

theorem signRows_32 : SignRows 32 (by norm_num) := by unfold SignRows; decide +kernel
theorem signRows_33 : SignRows 33 (by norm_num) := by unfold SignRows; decide +kernel
theorem signRows_34 : SignRows 34 (by norm_num) := by unfold SignRows; decide +kernel
theorem signRows_35 : SignRows 35 (by norm_num) := by unfold SignRows; decide +kernel
theorem signRows_36 : SignRows 36 (by norm_num) := by unfold SignRows; decide +kernel
theorem signRows_37 : SignRows 37 (by norm_num) := by unfold SignRows; decide +kernel
theorem signRows_38 : SignRows 38 (by norm_num) := by unfold SignRows; decide +kernel
theorem signRows_39 : SignRows 39 (by norm_num) := by unfold SignRows; decide +kernel
theorem signRows_40 : SignRows 40 (by norm_num) := by unfold SignRows; decide +kernel
theorem signRows_41 : SignRows 41 (by norm_num) := by unfold SignRows; decide +kernel
theorem signRows_42 : SignRows 42 (by norm_num) := by unfold SignRows; decide +kernel
theorem signRows_43 : SignRows 43 (by norm_num) := by unfold SignRows; decide +kernel
theorem signRows_44 : SignRows 44 (by norm_num) := by unfold SignRows; decide +kernel
theorem signRows_45 : SignRows 45 (by norm_num) := by unfold SignRows; decide +kernel
theorem signRows_46 : SignRows 46 (by norm_num) := by unfold SignRows; decide +kernel
theorem signRows_47 : SignRows 47 (by norm_num) := by unfold SignRows; decide +kernel

/-- All of them. -/
theorem signRows_q2 : ∀ c (hc : c < 64), 32 ≤ c → c < 48 → SignRows c hc := by
  intro c hc lo hi
  interval_cases c
  · exact signRows_32
  · exact signRows_33
  · exact signRows_34
  · exact signRows_35
  · exact signRows_36
  · exact signRows_37
  · exact signRows_38
  · exact signRows_39
  · exact signRows_40
  · exact signRows_41
  · exact signRows_42
  · exact signRows_43
  · exact signRows_44
  · exact signRows_45
  · exact signRows_46
  · exact signRows_47

end Cert.KernelIdeal.Body

end
-- ==== Proof.Value.Signs.Q3.lean ====
/- Rows 192 to 255 of the kernel's sign matrix, read off its literal. -/
module

public import proofs.«01_k».proof.Proof.Value.Signs.Rows

@[expose] public section

set_option maxRecDepth 65536

noncomputable section

namespace Cert.KernelIdeal.Body

theorem signRows_48 : SignRows 48 (by norm_num) := by unfold SignRows; decide +kernel
theorem signRows_49 : SignRows 49 (by norm_num) := by unfold SignRows; decide +kernel
theorem signRows_50 : SignRows 50 (by norm_num) := by unfold SignRows; decide +kernel
theorem signRows_51 : SignRows 51 (by norm_num) := by unfold SignRows; decide +kernel
theorem signRows_52 : SignRows 52 (by norm_num) := by unfold SignRows; decide +kernel
theorem signRows_53 : SignRows 53 (by norm_num) := by unfold SignRows; decide +kernel
theorem signRows_54 : SignRows 54 (by norm_num) := by unfold SignRows; decide +kernel
theorem signRows_55 : SignRows 55 (by norm_num) := by unfold SignRows; decide +kernel
theorem signRows_56 : SignRows 56 (by norm_num) := by unfold SignRows; decide +kernel
theorem signRows_57 : SignRows 57 (by norm_num) := by unfold SignRows; decide +kernel
theorem signRows_58 : SignRows 58 (by norm_num) := by unfold SignRows; decide +kernel
theorem signRows_59 : SignRows 59 (by norm_num) := by unfold SignRows; decide +kernel
theorem signRows_60 : SignRows 60 (by norm_num) := by unfold SignRows; decide +kernel
theorem signRows_61 : SignRows 61 (by norm_num) := by unfold SignRows; decide +kernel
theorem signRows_62 : SignRows 62 (by norm_num) := by unfold SignRows; decide +kernel
theorem signRows_63 : SignRows 63 (by norm_num) := by unfold SignRows; decide +kernel

/-- All of them. -/
theorem signRows_q3 : ∀ c (hc : c < 64), 48 ≤ c → c < 64 → SignRows c hc := by
  intro c hc lo hi
  interval_cases c
  · exact signRows_48
  · exact signRows_49
  · exact signRows_50
  · exact signRows_51
  · exact signRows_52
  · exact signRows_53
  · exact signRows_54
  · exact signRows_55
  · exact signRows_56
  · exact signRows_57
  · exact signRows_58
  · exact signRows_59
  · exact signRows_60
  · exact signRows_61
  · exact signRows_62
  · exact signRows_63

end Cert.KernelIdeal.Body

end
-- ==== Proof.Value.Final.lean ====
/- The kernel's four result arrays after its run, as functions of its arguments: the layer of `Value/Spec.lean`. -/
module

public import proofs.«01_k».proof.Proof.Body.Frame
public import proofs.«01_k».proof.Proof.Value.Kernel
public import proofs.«01_k».proof.Proof.Value.Signs.Q0
public import proofs.«01_k».proof.Proof.Value.Signs.Q1
public import proofs.«01_k».proof.Proof.Value.Signs.Q2
public import proofs.«01_k».proof.Proof.Value.Signs.Q3
public import Idealize.ShloMosaic.Lib.Claim

@[expose] public section

set_option maxRecDepth 16384

noncomputable section

namespace Cert.KernelIdeal.Body

open Cert.KernelIdeal Cert.KernelIdeal.Gen Cert.Layer
open Idealize.ShloMosaic Idealize.ShloMosaic.TcCoe Idealize.ShloMosaic.Tactic
open Idealize.SL.Sem

variable (m : (ℓ : Loc nD τ sig) → Buf (Elt Ideal) ℓ) (c : Dev nD)

/-- The arguments by their coordinates. -/
def argX (r : Fin 256) (l : Fin 4096) : EReal := (m ((c : Thread nD τ).loc main_arg0) : FVec Ideal S1x256x4096 .bf16) (ix3 0 r l)
def argY (r : Fin 256) (l : Fin 4096) : EReal := (m ((c : Thread nD τ).loc main_arg1) : FVec Ideal S1x256x4096 .bf16) (ix3 0 r l)
def argW (p : Fin 2048) (n : Fin 14336) : BitVec 8 := (m ((c : Thread nD τ).loc main_arg2) : Vec Ideal S2048x14336 .i8) (ix2 p n)
def argS (g : Fin 32) (n : Fin 14336) : EReal := (m ((c : Thread nD τ).loc main_arg3) : FVec Ideal S32x14336 .f32) (ix2 g n)

/-- Each window's block index at a point. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val] ∧ win0_6.index t = ![0, t.val]
    ∧ win0_7.index t = ![0, 0] ∧ win0_8.index t = ![0, 0] :=
  (by decide +kernel : ∀ t : Fin grid0.N, _)

theorem point_lt (t : Fin cfg0.N) : t.val < 28 := lt_of_lt_of_eq t.isLt N_0

/-- The blocks the first point reads. -/
theorem x_block : acts (iblk m c 0 pt0) = argX m c := by
  funext r l
  unfold acts argX
  blk_simp [iblk, idx pt0]
  entry_read
  pointwise
  blk_ext [iblk, V, idx pt0]

theorem y_block : acts (iblk m c 1 pt0) = argY m c := by
  funext r l
  unfold acts argY
  blk_simp [iblk, idx pt0]
  entry_read
  pointwise
  blk_ext [iblk, V, idx pt0]

/-- All the rows of the sign matrix. -/
theorem signRows (k : ℕ) (hk : k < 64) : SignRows k hk := by
  by_cases h0 : k < 16
  · exact signRows_q0 k hk (Nat.zero_le k) h0
  by_cases h1 : k < 32
  · exact signRows_q1 k hk (by omega) h1
  by_cases h2 : k < 48
  · exact signRows_q2 k hk (by omega) h2
  · exact signRows_q3 k hk (by omega) hk

/-- The sign matrix's words, -/
theorem sign_word (k j : Fin 256) : FloatOps.ofBits (F := Ideal) FTy.bf16 (lit0 (⟨k.val * 256 + j.val, by omega⟩ : Fin 65536))
    = if k.val / 128 = j.val / 128 then sg (k.val % 128) (j.val % 128) else 0 := by
  have hk := k.isLt
  have e := signRows (k.val / 4) (by omega) ⟨k.val % 4, by omega⟩ j
  dsimp only at e
  simp only [show 4 * (k.val / 4) + k.val % 4 = k.val by omega] at e
  rw [e]
  unfold sg
  by_cases h : k.val / 128 = j.val / 128
  · rw [if_pos h, if_pos h]
    cases neg 7 (k.val % 128) (j.val % 128)
    · exact word_one
    · exact word_negOne
  · rw [if_neg h, if_neg h]
    cases neg 7 (k.val % 128) (j.val % 128)
    · exact word_zero
    · exact word_negZero

/-- and the matrix itself. -/
theorem signs_block : IsSigns (iblk m c 2 pt0) := by
  intro k j
  blk_simp [iblk, idx pt0]
  entry_read
  have hk := k.isLt
  have hj := j.isLt
  have e : S256x256.rowMajor (((View.whole main_cst).slice (win0_2.rect pt0)).emb (ix2 k j)) = ⟨k.val * 256 + j.val, by
      show _ < 65536; omega⟩ := by
    apply Fin.ext
    rw [Shape.rowMajor_val_two]
    blk_simp [idx pt0]
  rw [e, sign_word]

/-- The blocks of the weights and their scales at a point. -/
theorem w_block (t : Fin cfg0.N) (p : Fin 2048) (j : Fin 512) :
    (iblk m c 3 t : Vec Ideal S2048x512 .i8) (ix2 p j) = argW m c p ⟨t.val * 512 + j.val, by have := point_lt t; have := j.isLt; omega⟩ := by
  unfold argW
  blk_ext [iblk, V, idx t]

theorem s_block (t : Fin cfg0.N) (g : Fin 32) (j : Fin 512) :
    (iblk m c 4 t : FVec Ideal S32x512 .f32) (ix2 g j) = argS m c g ⟨t.val * 512 + j.val, by have := point_lt t; have := j.isLt; omega⟩ := by
  unfold argS
  blk_ext [iblk, V, idx t]

/-- One point's block of the draft result is that block of the layer's, -/
theorem draft_point (t : Fin cfg0.N) (r r' : Fin 256) (j : Fin 512) (n : Fin 14336) (h0 : r'.val = r.val) (h1 : n.val = t.val * 512 + j.val) :
    k0_pay120 (iblk m c 3 t) (iblk m c 4 t) (stackV m c) (scaleV m c) (ix2 r j) = draft (argX m c) (argW m c) (argS m c) r' n := by
  obtain rfl : r' = r := Fin.ext h0
  have ht := point_lt t
  have hj := j.isLt
  have e : n = ⟨t.val * 512 + j.val, by omega⟩ := Fin.ext h1
  rw [e, ← x_block]
  exact pay120_at (argW m c) (argS m c) (iblk m c 3 t) (iblk m c 4 t) (iblk m c 0 pt0) (iblk m c 1 pt0) (iblk m c 2 pt0)
    (signs_block m c) r' j _ (fun p => w_block m c t p j) (fun g => s_block m c t g j)

/-- and of the verify result. -/
theorem verify_point (t : Fin cfg0.N) (r r' : Fin 256) (j : Fin 512) (n : Fin 14336) (h0 : r'.val = r.val) (h1 : n.val = t.val * 512 + j.val) :
    k0_pay121 (iblk m c 3 t) (iblk m c 4 t) (stackV m c) (ix2 r j) = verify (argY m c) (argW m c) (argS m c) r' n := by
  obtain rfl : r' = r := Fin.ext h0
  have ht := point_lt t
  have hj := j.isLt
  have e : n = ⟨t.val * 512 + j.val, by omega⟩ := Fin.ext h1
  rw [e, ← y_block]
  exact pay121_at (argW m c) (argS m c) (iblk m c 3 t) (iblk m c 4 t) (iblk m c 0 pt0) (iblk m c 1 pt0) (iblk m c 2 pt0)
    (signs_block m c) r' j _ (fun p => w_block m c t p j) (fun g => s_block m c t g j)

/-- The codes and the scale. -/
theorem codes_point (r r' : Fin 256) (l : Fin 4096) (n : ℕ) (h0 : r'.val = r.val) (h1 : n = l.val) :
    codesV m c (ix2 r l) = code (argX m c) r' n := by
  obtain rfl : r' = r := Fin.ext h0
  rw [← x_block, h1]
  exact codesArr_at (iblk m c 0 pt0) (iblk m c 2 pt0) (signs_block m c) r' l

theorem scale_point (r r' : Fin 256) (u : Fin 1) (h0 : r'.val = r.val) : scaleV m c (ix2 r u) = scl (argX m c) r' := by
  obtain rfl : r' = r := Fin.ext h0
  obtain rfl : u = 0 := Subsingleton.elim _ _
  rw [← x_block]
  exact scaleArr_at (iblk m c 0 pt0) (iblk m c 2 pt0) (signs_block m c) r'

/-- The four result arrays. -/
theorem final_draft : (dats m 0 c).arrAt 5 cfg0.N = fun i : S256x14336.Idx => draft (argX m c) (argW m c) (argS m c) (i 0) (i 1) := by
  refine (dats m 0 c).arrAt_eq_of_covers 5 _ (by decide +kernel) fun t _ y => ?_
  blk_simp [idx t]
  rw [after0_5, eq_ix2 y]
  refine draft_point m c t _ _ _ _ ?_ ?_ <;> blk_simp [idx t] <;> omega

theorem final_verify : (dats m 0 c).arrAt 6 cfg0.N = fun i : S256x14336.Idx => verify (argY m c) (argW m c) (argS m c) (i 0) (i 1) := by
  refine (dats m 0 c).arrAt_eq_of_covers 6 _ (by decide +kernel) fun t _ y => ?_
  blk_simp [idx t]
  rw [after0_6, eq_ix2 y]
  refine verify_point m c t _ _ _ _ ?_ ?_ <;> blk_simp [idx t] <;> omega

theorem final_codes : (dats m 0 c).arrAt 7 cfg0.N = fun i : S256x4096.Idx => code (argX m c) (i 0) (i 1).val := by
  refine (dats m 0 c).arrAt_eq_of_covers 7 _ (by decide +kernel) fun t _ y => ?_
  blk_simp [idx t]
  rw [after0_7, eq_ix2 y]
  refine codes_point m c _ _ _ _ ?_ ?_ <;> blk_simp [idx t] <;> omega

theorem final_scale : (dats m 0 c).arrAt 8 cfg0.N = fun i : S256x1.Idx => scl (argX m c) (i 0) := by
  refine (dats m 0 c).arrAt_eq_of_covers 8 _ (by decide +kernel) fun t _ y => ?_
  blk_simp [idx t]
  rw [after0_8, eq_ix2 y]
  refine scale_point m c _ _ _ ?_ <;> blk_simp [idx t] <;> omega

end Cert.KernelIdeal.Body

end
-- ==== Proof.Value.Stages.lean ====
/- The reference's stages, as functions of its arguments, and its four results as their compositions. -/
module

public import proofs.«01_k».proof.Proof.Gen.ReferenceIdeal.Run
public import proofs.«01_k».proof.Proof.Value.Spec
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- The 2 × 2 matrix, -/
def had2 : FVec Ideal S2x2 .f32 := fun i => FloatOps.ofBits .f32 (lit0 (S2x2.rowMajor i))
/-- and its Kronecker power of size 4. -/
def had4 : FVec Ideal S4x4 .f32 :=
  shapeCast _ (mulf (broadcastInDim S2x2x2x2 ![0, 1, 2, 3] bcast_S2x1x2x1_S2x2x2x2_0_1_2_3 (broadcastInDim S2x1x2x1 ![0, 2] bcast_S2x2_S2x1x2x1_0_2 had2))
    (broadcastInDim S2x2x2x2 ![0, 1, 2, 3] bcast_S1x2x1x2_S2x2x2x2_0_1_2_3 (broadcastInDim S1x2x1x2 ![1, 3] bcast_S2x2_S1x2x1x2_1_3 had2))) shapeCasts_S2x2x2x2_S4x4
/-- and its Kronecker power of size 8. -/
def had8 : FVec Ideal S8x8 .f32 :=
  shapeCast _ (mulf (broadcastInDim S4x2x4x2 ![0, 1, 2, 3] bcast_S4x1x4x1_S4x2x4x2_0_1_2_3 (broadcastInDim S4x1x4x1 ![0, 2] bcast_S4x4_S4x1x4x1_0_2 had4))
    (broadcastInDim S4x2x4x2 ![0, 1, 2, 3] bcast_S1x2x1x2_S4x2x4x2_0_1_2_3 (broadcastInDim S1x2x1x2 ![1, 3] bcast_S2x2_S1x2x1x2_1_3 had2))) shapeCasts_S4x2x4x2_S8x8
/-- and its Kronecker power of size 16. -/
def had16 : FVec Ideal S16x16 .f32 :=
  shapeCast _ (mulf (broadcastInDim S8x2x8x2 ![0, 1, 2, 3] bcast_S8x1x8x1_S8x2x8x2_0_1_2_3 (broadcastInDim S8x1x8x1 ![0, 2] bcast_S8x8_S8x1x8x1_0_2 had8))
    (broadcastInDim S8x2x8x2 ![0, 1, 2, 3] bcast_S1x2x1x2_S8x2x8x2_0_1_2_3 (broadcastInDim S1x2x1x2 ![1, 3] bcast_S2x2_S1x2x1x2_1_3 had2))) shapeCasts_S8x2x8x2_S16x16
/-- and its Kronecker power of size 32. -/
def had32 : FVec Ideal S32x32 .f32 :=
  shapeCast _ (mulf (broadcastInDim S16x2x16x2 ![0, 1, 2, 3] bcast_S16x1x16x1_S16x2x16x2_0_1_2_3 (broadcastInDim S16x1x16x1 ![0, 2] bcast_S16x16_S16x1x16x1_0_2 had16))
    (broadcastInDim S16x2x16x2 ![0, 1, 2, 3] bcast_S1x2x1x2_S16x2x16x2_0_1_2_3 (broadcastInDim S1x2x1x2 ![1, 3] bcast_S2x2_S1x2x1x2_1_3 had2))) shapeCasts_S16x2x16x2_S32x32
/-- and its Kronecker power of size 64. -/
def had64 : FVec Ideal S64x64 .f32 :=
  shapeCast _ (mulf (broadcastInDim S32x2x32x2 ![0, 1, 2, 3] bcast_S32x1x32x1_S32x2x32x2_0_1_2_3 (broadcastInDim S32x1x32x1 ![0, 2] bcast_S32x32_S32x1x32x1_0_2 had32))
    (broadcastInDim S32x2x32x2 ![0, 1, 2, 3] bcast_S1x2x1x2_S32x2x32x2_0_1_2_3 (broadcastInDim S1x2x1x2 ![1, 3] bcast_S2x2_S1x2x1x2_1_3 had2))) shapeCasts_S32x2x32x2_S64x64
/-- and its Kronecker power of size 128. -/
def had128 : FVec Ideal S128x128 .f32 :=
  shapeCast _ (mulf (broadcastInDim S64x2x64x2 ![0, 1, 2, 3] bcast_S64x1x64x1_S64x2x64x2_0_1_2_3 (broadcastInDim S64x1x64x1 ![0, 2] bcast_S64x64_S64x1x64x1_0_2 had64))
    (broadcastInDim S64x2x64x2 ![0, 1, 2, 3] bcast_S1x2x1x2_S64x2x64x2_0_1_2_3 (broadcastInDim S1x2x1x2 ![1, 3] bcast_S2x2_S1x2x1x2_1_3 had2))) shapeCasts_S64x2x64x2_S128x128
/-- The normalised Hadamard matrix. -/
def had : FVec Ideal S128x128 .f32 := mulf had128 (broadcastInDim S128x128 ![] bcast_S_S128x128 (constant S_ .f32 0x3DB504F3#32))

/-- The rotated activations, -/
def rotated (x : FVec Ideal S1x256x4096 .bf16) : FVec Ideal S1x256x4096 .f32 :=
  shapeCast _ (Host.dotGeneral dot_S1x256x32x128_S128x128_S1x256x32x128_3_0_012_1_n_n (some .fp32) (shapeCast _ (extf .f32 x bitsLt_bf16_f32) shapeCasts_S1x256x4096_S1x256x32x128) had) shapeCasts_S1x256x32x128_S1x256x4096
/-- their largest magnitude per token, -/
def largest (x : FVec Ideal S1x256x4096 .bf16) : FVec Ideal S1x256 .f32 :=
  Host.reduce FloatOps.maximumf (Host.absf (rotated x)) (constant S_ .f32 0xFF800000#32) reducesTo_S1x256x4096_S1x256_d2 h_S_
/-- the scale per token -/
def scale (x : FVec Ideal S1x256x4096 .bf16) : FVec Ideal S1x256 .f32 :=
  select (cmpf .oeq (largest x) (broadcastInDim S1x256 ![] bcast_S_S1x256 (constant S_ .f32 0x00000000#32))) (broadcastInDim S1x256 ![] bcast_S_S1x256 (constant S_ .f32 0x3F800000#32)) (Host.divf (largest x) (broadcastInDim S1x256 ![] bcast_S_S1x256 (constant S_ .f32 0x40E00000#32)))
/-- (the same after the barrier) -/
def scaleOut (x : FVec Ideal S1x256x4096 .bf16) : FVec Ideal S1x256 .f32 := id (scale x)
theorem scaleOut_eq (x : FVec Ideal S1x256x4096 .bf16) : scaleOut x = scale x := by unfold scaleOut; exact id_eq _
/-- and the codes, before -/
def codes₀ (x : FVec Ideal S1x256x4096 .bf16) : Vec Ideal S1x256x4096 .i8 :=
  trunci 8 (fptosi 32 (minimumf (broadcastInDim S1x256x4096 ![] bcast_S_S1x256x4096 (sitofp .f32 (constantI S_ 32 7#32))) (maximumf (broadcastInDim S1x256x4096 ![] bcast_S_S1x256x4096 (sitofp .f32 (constantI S_ 32 4294967289#32))) (Host.roundeven (Host.divf (rotated x) (broadcastInDim S1x256x4096 ![0, 1, 2] bcast_S1x256x1_S1x256x4096_0_1_2 (broadcastInDim S1x256x1 ![0, 1] bcast_S1x256_S1x256x1_0_1 (scale x)))))))) natLt_8_32
/-- and after the barrier. -/
def codes (x : FVec Ideal S1x256x4096 .bf16) : Vec Ideal S1x256x4096 .i8 :=
  id (codes₀ x)

/-- The even activations: the codes, -/
def evenD (x : FVec Ideal S1x256x4096 .bf16) : FVec Ideal S256x2048 .bf16 :=
  shapeCast _ (Host.slice S1x256x2048 ![0, 0, 0] ![1, 1, 2] (sitofp .bf16 (extsi 32 (codes x) natLt_8_32)) slicesBy_S1x256x4096_S1x256x2048_0s1_0s1_0s2) shapeCasts_S1x256x2048_S256x2048
/-- the rotation, -/
def evenV (y : FVec Ideal S1x256x4096 .bf16) : FVec Ideal S256x2048 .bf16 :=
  truncf .bf16 (shapeCast _ (Host.dotGeneral dot_S1x256x32x128_S128x64_S1x256x32x64_3_0_012_1_n_n (some .fp32) (shapeCast _ (extf .f32 y bitsLt_bf16_f32) shapeCasts_S1x256x4096_S1x256x32x128) (Host.slice S128x64 ![0, 0] ![1, 2] had slicesBy_S128x128_S128x64_0s1_0s2)) shapeCasts_S1x256x32x64_S256x2048) bitsLt_bf16_f32
/-- and one above the other. -/
def even (x y : FVec Ideal S1x256x4096 .bf16) : FVec Ideal S512x2048 .bf16 :=
  concatenate S512x2048 0 [⟨S256x2048, (evenD x)⟩, ⟨S256x2048, (evenV y)⟩] concatenates_S256x2048_S256x2048_S512x2048_d0

/-- The odd activations: the codes, -/
def oddD (x : FVec Ideal S1x256x4096 .bf16) : FVec Ideal S256x2048 .bf16 :=
  shapeCast _ (Host.slice S1x256x2048 ![0, 0, 1] ![1, 1, 2] (sitofp .bf16 (extsi 32 (codes x) natLt_8_32)) slicesBy_S1x256x4096_S1x256x2048_0s1_0s1_1s2) shapeCasts_S1x256x2048_S256x2048
/-- the rotation, -/
def oddV (y : FVec Ideal S1x256x4096 .bf16) : FVec Ideal S256x2048 .bf16 :=
  truncf .bf16 (shapeCast _ (Host.dotGeneral dot_S1x256x32x128_S128x64_S1x256x32x64_3_0_012_1_n_n (some .fp32) (shapeCast _ (extf .f32 y bitsLt_bf16_f32) shapeCasts_S1x256x4096_S1x256x32x128) (Host.slice S128x64 ![0, 1] ![1, 2] had slicesBy_S128x128_S128x64_0s1_1s2)) shapeCasts_S1x256x32x64_S256x2048) bitsLt_bf16_f32
/-- and one above the other. -/
def odd (x y : FVec Ideal S1x256x4096 .bf16) : FVec Ideal S512x2048 .bf16 :=
  concatenate S512x2048 0 [⟨S256x2048, (oddD x)⟩, ⟨S256x2048, (oddV y)⟩] concatenates_S256x2048_S256x2048_S512x2048_d0

/-- The weights of the low nibbles. -/
def lowW (w : Vec Ideal S2048x14336 .i8) (s : FVec Ideal S32x14336 .f32) : FVec Ideal S2048x14336 .bf16 :=
  shapeCast _ (mulf (sitofp .bf16 (shapeCast _ (Host.shrsi (Host.shli (extui 32 w natLt_8_32) (broadcastInDim S2048x14336 ![] bcast_S_S2048x14336 (constantI S_ 32 28#32))) (broadcastInDim S2048x14336 ![] bcast_S_S2048x14336 (constantI S_ 32 28#32))) shapeCasts_S2048x14336_S32x64x14336)) (broadcastInDim S32x64x14336 ![0, 1, 2] bcast_S32x1x14336_S32x64x14336_0_1_2 (broadcastInDim S32x1x14336 ![0, 2] bcast_S32x14336_S32x1x14336_0_2 (truncf .bf16 s bitsLt_bf16_f32)))) shapeCasts_S32x64x14336_S2048x14336

/-- The weights of the high nibbles. -/
def highW (w : Vec Ideal S2048x14336 .i8) (s : FVec Ideal S32x14336 .f32) : FVec Ideal S2048x14336 .bf16 :=
  shapeCast _ (mulf (sitofp .bf16 (shapeCast _ (Host.shrsi (Host.shli (extui 32 w natLt_8_32) (broadcastInDim S2048x14336 ![] bcast_S_S2048x14336 (constantI S_ 32 24#32))) (broadcastInDim S2048x14336 ![] bcast_S_S2048x14336 (constantI S_ 32 28#32))) shapeCasts_S2048x14336_S32x64x14336)) (broadcastInDim S32x64x14336 ![0, 1, 2] bcast_S32x1x14336_S32x64x14336_0_1_2 (broadcastInDim S32x1x14336 ![0, 2] bcast_S32x14336_S32x1x14336_0_2 (truncf .bf16 s bitsLt_bf16_f32)))) shapeCasts_S32x64x14336_S2048x14336

/-- The product. -/
def product (x y : FVec Ideal S1x256x4096 .bf16) (w : Vec Ideal S2048x14336 .i8) (s : FVec Ideal S32x14336 .f32) : FVec Ideal S512x14336 .f32 :=
  addf (Host.dotGeneral dot_S512x2048_S2048x14336_S512x14336_1_0_0_1_n_n none (even x y) (lowW w s)) (Host.dotGeneral dot_S512x2048_S2048x14336_S512x14336_1_0_0_1_n_n none (odd x y) (highW w s))

/-- Result 1 of 4. -/
def resDraft (x y : FVec Ideal S1x256x4096 .bf16) (w : Vec Ideal S2048x14336 .i8) (s : FVec Ideal S32x14336 .f32) : FVec Ideal S256x14336 .bf16 :=
  shapeCast _ (truncf .bf16 (mulf (shapeCast _ (extractStridedSlice S256x14336 ![0, 0] (product x y w s) slices_S512x14336_S256x14336_0_0) shapeCasts_S256x14336_S1x256x14336) (broadcastInDim S1x256x14336 ![0, 1, 2] bcast_S1x256x1_S1x256x14336_0_1_2 (broadcastInDim S1x256x1 ![0, 1] bcast_S1x256_S1x256x1_0_1 (scaleOut x)))) bitsLt_bf16_f32) shapeCasts_S1x256x14336_S256x14336
/-- Result 2 of 4. -/
def resVerify (x y : FVec Ideal S1x256x4096 .bf16) (w : Vec Ideal S2048x14336 .i8) (s : FVec Ideal S32x14336 .f32) : FVec Ideal S256x14336 .bf16 :=
  shapeCast _ (truncf .bf16 (shapeCast _ (extractStridedSlice S256x14336 ![256, 0] (product x y w s) slices_S512x14336_S256x14336_256_0) shapeCasts_S256x14336_S1x256x14336) bitsLt_bf16_f32) shapeCasts_S1x256x14336_S256x14336
/-- Result 3 of 4. -/
def resCodes (x : FVec Ideal S1x256x4096 .bf16) : Vec Ideal S256x4096 .i8 :=
  shapeCast _ (codes x) shapeCasts_S1x256x4096_S256x4096
/-- Result 4 of 4. -/
def resScale (x : FVec Ideal S1x256x4096 .bf16) : FVec Ideal S256x1 .f32 :=
  shapeCast _ (scaleOut x) shapeCasts_S1x256_S256x1

variable (m : (ℓ : Loc nD τ sig) → Buf (Elt Ideal) ℓ) (c : Dev nD)

theorem resDraft_eq : res_out0 m c = resDraft (m ((c.tc : Thread nD τ).loc main_arg0)) (m ((c.tc : Thread nD τ).loc main_arg1)) (m ((c.tc : Thread nD τ).loc main_arg2)) (m ((c.tc : Thread nD τ).loc main_arg3)) := rfl
theorem resVerify_eq : res_out1 m c = resVerify (m ((c.tc : Thread nD τ).loc main_arg0)) (m ((c.tc : Thread nD τ).loc main_arg1)) (m ((c.tc : Thread nD τ).loc main_arg2)) (m ((c.tc : Thread nD τ).loc main_arg3)) := rfl
theorem resCodes_eq : res_out2 m c = resCodes (m ((c.tc : Thread nD τ).loc main_arg0)) := rfl
theorem resScale_eq : res_out3 m c = resScale (m ((c.tc : Thread nD τ).loc main_arg0)) := rfl

end Cert.ReferenceIdeal.Value

end
-- ==== Proof.Value.Reference.lean ====
/- The reference's stages over the extended reals, entry by entry, are the layer of `Value/Spec.lean`. -/
module

public import proofs.«01_k».proof.Proof.Value.Stages

@[expose] public section

set_option maxRecDepth 16384

noncomputable section

namespace Cert.ReferenceIdeal.Value

open Cert.ReferenceIdeal Cert.ReferenceIdeal.Gen Cert.Layer
open Idealize.ShloMosaic Idealize.ShloMosaic.TcCoe

/-! ## The Hadamard matrix -/

theorem had2_at (a b : Fin 2) : had2 (ix2 a b) = sval (decide (a.val % 2 = 1) && decide (b.val % 2 = 1)) := by
  pointwise [had2]
  fin_cases a <;> fin_cases b
  · exact word_one32
  · exact word_one32
  · exact word_one32
  · exact word_negOne32

theorem had2_neg (i j : Fin 2) : had2 (ix2 i j) = sval (neg 1 i.val j.val) := by
  rw [had2_at]
  unfold neg neg
  rw [Bool.false_xor]

theorem had4_neg (i j : Fin 4) : had4 (ix2 i j) = sval (neg 2 i.val j.val) := by
  have hi := i.isLt
  have hj := j.isLt
  have e := congrArg₂ (· * ·) (had2_neg ⟨i.val / 2, by omega⟩ ⟨j.val / 2, by omega⟩) (had2_at ⟨i.val % 2, by omega⟩ ⟨j.val % 2, by omega⟩)
  pointwise [had4]
  refine e.trans ?_
  dsimp only
  rw [sval_mul, Nat.mod_mod, Nat.mod_mod]
  rfl

theorem had8_neg (i j : Fin 8) : had8 (ix2 i j) = sval (neg 3 i.val j.val) := by
  have hi := i.isLt
  have hj := j.isLt
  have e := congrArg₂ (· * ·) (had4_neg ⟨i.val / 2, by omega⟩ ⟨j.val / 2, by omega⟩) (had2_at ⟨i.val % 2, by omega⟩ ⟨j.val % 2, by omega⟩)
  pointwise [had8]
  refine e.trans ?_
  dsimp only
  rw [sval_mul, Nat.mod_mod, Nat.mod_mod]
  rfl

theorem had16_neg (i j : Fin 16) : had16 (ix2 i j) = sval (neg 4 i.val j.val) := by
  have hi := i.isLt
  have hj := j.isLt
  have e := congrArg₂ (· * ·) (had8_neg ⟨i.val / 2, by omega⟩ ⟨j.val / 2, by omega⟩) (had2_at ⟨i.val % 2, by omega⟩ ⟨j.val % 2, by omega⟩)
  pointwise [had16]
  refine e.trans ?_
  dsimp only
  rw [sval_mul, Nat.mod_mod, Nat.mod_mod]
  rfl

theorem had32_neg (i j : Fin 32) : had32 (ix2 i j) = sval (neg 5 i.val j.val) := by
  have hi := i.isLt
  have hj := j.isLt
  have e := congrArg₂ (· * ·) (had16_neg ⟨i.val / 2, by omega⟩ ⟨j.val / 2, by omega⟩) (had2_at ⟨i.val % 2, by omega⟩ ⟨j.val % 2, by omega⟩)
  pointwise [had32]
  refine e.trans ?_
  dsimp only
  rw [sval_mul, Nat.mod_mod, Nat.mod_mod]
  rfl

theorem had64_neg (i j : Fin 64) : had64 (ix2 i j) = sval (neg 6 i.val j.val) := by
  have hi := i.isLt
  have hj := j.isLt
  have e := congrArg₂ (· * ·) (had32_neg ⟨i.val / 2, by omega⟩ ⟨j.val / 2, by omega⟩) (had2_at ⟨i.val % 2, by omega⟩ ⟨j.val % 2, by omega⟩)
  pointwise [had64]
  refine e.trans ?_
  dsimp only
  rw [sval_mul, Nat.mod_mod, Nat.mod_mod]
  rfl

theorem had128_neg (i j : Fin 128) : had128 (ix2 i j) = sval (neg 7 i.val j.val) := by
  have hi := i.isLt
  have hj := j.isLt
  have e := congrArg₂ (· * ·) (had64_neg ⟨i.val / 2, by omega⟩ ⟨j.val / 2, by omega⟩) (had2_at ⟨i.val % 2, by omega⟩ ⟨j.val % 2, by omega⟩)
  pointwise [had128]
  refine e.trans ?_
  dsimp only
  rw [sval_mul, Nat.mod_mod, Nat.mod_mod]
  rfl

theorem had_at (i j : Fin 128) : had (ix2 i j) = sg i.val j.val * nrm := by
  pointwise [had]
  rw [had128_neg]
  rfl

/-! ## The draft activations -/

/-- A 1×256×4096 array by its coordinates. -/
def rows (x : FVec Ideal S1x256x4096 .bf16) (r : Fin 256) (l : Fin 4096) : EReal := x (ix3 0 r l)

variable (x y : FVec Ideal S1x256x4096 .bf16)

/-- A group of activations times a column of the matrix is an entry of the rotation. -/
theorem rot_of (r : Fin 256) (l : ℕ) (i : Fin 128 → Fin 4096) (q : Fin 128) (hi : ∀ k, (i k).val = l / 128 * 128 + k.val) (hq : q.val = l % 128) :
    ∑ k : Fin 128, x (ix3 0 r (i k)) * had (ix2 k q) = rot (rows x) r l := by
  unfold rot
  refine Finset.sum_congr rfl fun k _ => ?_
  rw [had_at, ← hq, ← hi]
  refine congrArg (· * (sg k.val q.val * nrm)) (congrArg (rows x r) (Fin.ext ?_))
  exact (Nat.mod_eq_of_lt (i k).isLt).symm

theorem rotated_at (r : Fin 256) (l : Fin 4096) : rotated x (ix3 0 r l) = rot (rows x) r l.val := by
  have hl := l.isLt
  pointwise [rotated]
  exact rot_of x r l.val (fun k => ⟨l.val / 128 * 128 + k.val, by have := k.isLt; omega⟩) ⟨l.val % 128, by omega⟩ (fun _ => rfl) rfl

theorem largest_at (r : Fin 256) : largest x (ix2 0 r) = amax (rows x) r := by
  pointwise [largest]
  rw [negInf]
  unfold amax
  refine congrArg (fun f => (Finset.univ : Finset (Fin 4096)).fold max ⊥ f) (funext fun l => ?_)
  rw [rotated_at]
  rfl

theorem scale_at (r : Fin 256) : scale x (ix2 0 r) = scl (rows x) r := by
  pointwise [scale]
  rw [largest_at]
  rfl

theorem scaleOut_at (r : Fin 256) : scaleOut x (ix2 0 r) = scl (rows x) r := by
  rw [scaleOut_eq]
  exact scale_at x r

theorem codes_at (r : Fin 256) (l : Fin 4096) : codes x (ix3 0 r l) = code (rows x) r l.val := by
  have e : codes₀ x (ix3 0 r l) = (Ideal.fptosi 32 (quant (rows x) r l.val)).setWidth 8 := by
    pointwise [codes₀]
    rw [rotated_at, scale_at]
    show BitVec.setWidth 8 (Ideal.fptosi 32 (min ((((7#32 : BitVec 32).toInt : ℤ) : ℝ) : EReal)
      (max ((((4294967289#32 : BitVec 32).toInt : ℤ) : ℝ) : EReal) _))) = _
    rw [lit7, litm7]
    rfl
  exact e.trans (fptosi_clipR _)

/-- A code turned back into a number. -/
theorem number_at (r : Fin 256) (l : Fin 4096) :
    FloatOps.sitofp (F := Ideal) FTy.bf16 (BitVec.signExtend 32 (codes x (ix3 0 r l))) = quant (rows x) r l.val := by
  rw [codes_at]
  unfold code
  unfold quant
  rw [← fptosi_clipR]
  exact toInt_clipR _

/-! ## The two halves of the stack -/

theorem evenD_at (r : Fin 256) (p : Fin 2048) : evenD x (ix2 r p) = quant (rows x) r (2 * p.val) := by
  pointwise [evenD]
  exact number_at x r _

theorem oddD_at (r : Fin 256) (p : Fin 2048) : oddD x (ix2 r p) = quant (rows x) r (2 * p.val + 1) := by
  pointwise [oddD]
  refine (number_at x r _).trans ?_
  rw [Nat.add_comm (2 * p.val) 1]

theorem evenV_at (r : Fin 256) (p : Fin 2048) : evenV y (ix2 r p) = rot (rows y) r (2 * p.val) := by
  have hp := p.isLt
  pointwise [evenV]
  exact rot_of y r (2 * p.val) (fun k => ⟨p.val / 64 * 128 + k.val, by have := k.isLt; omega⟩) ⟨2 * (p.val % 64), by omega⟩
    (fun k => by dsimp only; omega) (by dsimp only; omega)

theorem oddV_at (r : Fin 256) (p : Fin 2048) : oddV y (ix2 r p) = rot (rows y) r (2 * p.val + 1) := by
  have hp := p.isLt
  pointwise [oddV]
  exact rot_of y r (2 * p.val + 1) (fun k => ⟨p.val / 64 * 128 + k.val, by have := k.isLt; omega⟩) ⟨1 + 2 * (p.val % 64), by omega⟩
    (fun k => by dsimp only; omega) (by dsimp only; omega)

theorem even_lo (r : Fin 256) (p : Fin 2048) : even x y (ix2 (⟨r.val, by omega⟩ : Fin 512) p) = evenD x (ix2 r p) := by
  pointwise [even]

theorem even_hi (r : Fin 256) (p : Fin 2048) : even x y (ix2 (⟨256 + r.val, by omega⟩ : Fin 512) p) = evenV y (ix2 r p) := by
  pointwise [even]

theorem odd_lo (r : Fin 256) (p : Fin 2048) : odd x y (ix2 (⟨r.val, by omega⟩ : Fin 512) p) = oddD x (ix2 r p) := by
  pointwise [odd]

theorem odd_hi (r : Fin 256) (p : Fin 2048) : odd x y (ix2 (⟨256 + r.val, by omega⟩ : Fin 512) p) = oddV y (ix2 r p) := by
  pointwise [odd]

/-! ## The weights and the product -/

variable (w : Vec Ideal S2048x14336 .i8) (s : FVec Ideal S32x14336 .f32)

/-- The weights by their coordinates. -/
def bytes (p : Fin 2048) (n : Fin 14336) : BitVec 8 := w (ix2 p n)
def scales (g : Fin 32) (n : Fin 14336) : EReal := s (ix2 g n)

theorem lowW_at (p : Fin 2048) (n : Fin 14336) : lowW w s (ix2 p n) = wgt (bytes w) (scales s) (2 * p.val) n := by
  have hp := p.isLt
  pointwise [lowW]
  unfold wgt
  rw [if_pos (show 2 * p.val % 2 < 1 by omega), ofNat_eq (2 * p.val / 2) (by omega), ofNat_eq (2 * p.val / 128) (by omega)]
  simp only [show 2 * p.val / 2 = p.val by omega, show 2 * p.val / 128 = p.val / 64 by omega]
  rfl

theorem highW_at (p : Fin 2048) (n : Fin 14336) : highW w s (ix2 p n) = wgt (bytes w) (scales s) (2 * p.val + 1) n := by
  have hp := p.isLt
  pointwise [highW]
  unfold wgt
  rw [if_neg (show ¬(2 * p.val + 1) % 2 < 1 by omega), ofNat_eq ((2 * p.val + 1) / 2) (by omega), ofNat_eq ((2 * p.val + 1) / 128) (by omega)]
  simp only [show (2 * p.val + 1) / 2 = p.val by omega, show (2 * p.val + 1) / 128 = p.val / 64 by omega]
  rfl

theorem product_at (r : Fin 512) (n : Fin 14336) : product x y w s (ix2 r n)
    = (∑ p : Fin 2048, even x y (ix2 r p) * lowW w s (ix2 p n)) + ∑ p : Fin 2048, odd x y (ix2 r p) * highW w s (ix2 p n) := by
  pointwise [product]

/-- Split into even and odd rows of the weights, a product is the whole one. -/
theorem product_of (A : ℕ → EReal) (r : Fin 512) (n : Fin 14336) (he : ∀ p : Fin 2048, even x y (ix2 r p) = A (2 * p.val))
    (ho : ∀ p : Fin 2048, odd x y (ix2 r p) = A (2 * p.val + 1)) : product x y w s (ix2 r n) = prod A (bytes w) (scales s) n := by
  rw [product_at]
  refine Eq.trans ?_ (sum_even_odd fun k => A k * wgt (bytes w) (scales s) k n).symm
  refine congrArg₂ (· + ·) (Finset.sum_congr rfl fun p _ => ?_) (Finset.sum_congr rfl fun p _ => ?_)
  · rw [he, lowW_at]
  · rw [ho, highW_at]

/-! ## The four results -/

theorem resDraft_at (r : Fin 256) (n : Fin 14336) : resDraft x y w s (ix2 r n) = draft (rows x) (bytes w) (scales s) r n := by
  pointwise [resDraft]
  rw [scaleOut_at]
  refine congrArg (· * scl (rows x) r) (product_of x y w s (quant (rows x) r) _ n (fun p => ?_) fun p => ?_)
  · exact (even_lo x y r p).trans (evenD_at x r p)
  · exact (odd_lo x y r p).trans (oddD_at x r p)

theorem resVerify_at (r : Fin 256) (n : Fin 14336) : resVerify x y w s (ix2 r n) = verify (rows y) (bytes w) (scales s) r n := by
  pointwise [resVerify]
  refine product_of x y w s (rot (rows y) r) _ n (fun p => ?_) fun p => ?_
  · exact (even_hi x y r p).trans (evenV_at y r p)
  · exact (odd_hi x y r p).trans (oddV_at y r p)

theorem resCodes_at (r : Fin 256) (l : Fin 4096) : resCodes x (ix2 r l) = code (rows x) r l.val := by
  pointwise [resCodes]
  exact codes_at x r l

theorem resScale_at (r : Fin 256) : resScale x (ix2 r 0) = scl (rows x) r := by
  pointwise [resScale]
  exact scaleOut_at x r

end Cert.ReferenceIdeal.Value

end
-- ==== Proof.lean ====
/- The certificate's claim: the three programs' frames, the idealization, and the equality of the kernel's and the reference's four results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body.Frame
public import proofs.«01_k».proof.Proof.KernelBody.Frame
public import proofs.«01_k».proof.Proof.Value.Final
public import proofs.«01_k».proof.Proof.Value.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Body.frame m ρ

/-- The idealized kernel's frame, from its run with every array named. -/
theorem frame_kernelIdeal : Cert.quiescent_KernelIdeal := fun m ρ _ => Cert.KernelIdeal.Body.frame m ρ

/-- The reference's frame: its run writes no argument, and it declares no semaphore. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

section Layer

open Cert.KernelIdeal Cert.KernelIdeal.Body Cert.Layer

variable (m : (ℓ : Loc nD τ sig) → Buf (Elt Ideal) ℓ) (c : Dev nD)

/-- The layer's four results on the kernel's arguments. -/
def layerDraft : FVec Ideal S256x14336 .bf16 := fun i => draft (argX m c) (argW m c) (argS m c) (i 0) (i 1)
def layerVerify : FVec Ideal S256x14336 .bf16 := fun i => verify (argY m c) (argW m c) (argS m c) (i 0) (i 1)
def layerCodes : Vec Ideal S256x4096 .i8 := fun i => code (argX m c) (i 0) (i 1).val
def layerScale : FVec Ideal S256x1 .f32 := fun i => scl (argX m c) (i 0)

open Cert.ReferenceIdeal.Value

/-- The reference's results on those arguments are the same. -/
theorem draft_layer : resDraft (m ((c.tc : Thread nD τ).loc main_arg0)) (m ((c.tc : Thread nD τ).loc main_arg1)) (m ((c.tc : Thread nD τ).loc main_arg2)) (m ((c.tc : Thread nD τ).loc main_arg3)) = layerDraft m c := by
  funext i
  idx_vars i
  exact resDraft_at _ _ _ _ _ _

theorem verify_layer : resVerify (m ((c.tc : Thread nD τ).loc main_arg0)) (m ((c.tc : Thread nD τ).loc main_arg1)) (m ((c.tc : Thread nD τ).loc main_arg2)) (m ((c.tc : Thread nD τ).loc main_arg3)) = layerVerify m c := by
  funext i
  idx_vars i
  exact resVerify_at _ _ _ _ _ _

theorem codes_layer : resCodes (m ((c.tc : Thread nD τ).loc main_arg0)) = layerCodes m c := by
  funext i
  idx_vars i
  exact resCodes_at _ _ _

theorem scale_layer : resScale (m ((c.tc : Thread nD τ).loc main_arg0)) = layerScale m c := by
  funext i
  obtain ⟨r, u, rfl⟩ : ∃ (r : Fin 256) (u : Fin 1), i = ix2 r u := ⟨i 0, i 1, eq_ix2 i⟩
  obtain rfl : u = 0 := Subsingleton.elim _ _
  exact resScale_at _ r

end Layer

/-- The idealized kernel's run ends with the four results of the layer (`Value/Spec.lean`), its arguments as they were. -/
theorem run_kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = layerDraft m c
      ∧ r.2.mem ((c.tc : Thread Cert.KernelIdeal.nD Cert.KernelIdeal.τ).loc Cert.KernelIdeal.main_v2_1) = layerVerify m c
      ∧ r.2.mem ((c.tc : Thread Cert.KernelIdeal.nD Cert.KernelIdeal.τ).loc Cert.KernelIdeal.main_v2_2) = layerCodes m c
      ∧ r.2.mem ((c.tc : Thread Cert.KernelIdeal.nD Cert.KernelIdeal.τ).loc Cert.KernelIdeal.main_v2_3) = layerScale m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  run_from Cert.KernelIdeal.Body.run_main m g
  · exact Cert.KernelIdeal.Body.final_draft m c
  · exact Cert.KernelIdeal.Body.final_verify m c
  · exact Cert.KernelIdeal.Body.final_codes m c
  · exact Cert.KernelIdeal.Body.final_scale m c

open Cert.ReferenceIdeal.Value in
/-- The reference's run ends with the same four results. -/
theorem algebraic : Cert.algebraic_KernelIdeal_ReferenceIdeal := by
  intro m g m' g' hpre hagree
  refine ⟨_, _, _, _, run_kernelIdeal m g, ?_⟩
  refine (θ_run Cert.ReferenceIdeal.defs _ _).mono (fun r h c => ?_) (Cert.ReferenceIdeal.Value.run (F := Ideal) m' g')
  obtain ⟨h0, h1, h2, h3, hargs⟩ := h c
  obtain ⟨a0, a1, a2, a3⟩ := hagree c
  refine ⟨h0.trans ?_, h1.trans ?_, h2.trans ?_, h3.trans ?_, hargs⟩
  · refine (resDraft_eq m' c).trans ?_
    rw [a0, a1, a2, a3]
    exact draft_layer m c
  · refine (resVerify_eq m' c).trans ?_
    rw [a0, a1, a2, a3]
    exact verify_layer m c
  · refine (resCodes_eq m' c).trans ?_
    rw [a0]
    exact codes_layer m c
  · refine (resScale_eq m' c).trans ?_
    rw [a0]
    exact scale_layer m c

theorem claim : Cert.Claim := ⟨Cert.Kernel.Gen.facts, Cert.KernelIdeal.Gen.facts, Cert.ReferenceIdeal.Gen.facts,
  frame_kernel, frame_kernelIdeal, frame_reference, trivial, algebraic⟩

end Cert.Proof

end
